-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gates_between_zero_and_one [hPre_gates_between_zero_and_one : Cert.Pre_gates_between_zero_and_one.Facts] (m : (ℓ : Loc Cert.KernelIdeal.nD Cert.KernelIdeal.τ Cert.KernelIdeal.sig) → Buf (Elt Ideal) ℓ) : Prop :=
  ∀ c : Dev Cert.KernelIdeal.nD,
    (Cert.Pre_gates_between_zero_and_one.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gates_between_zero_and_one [hPre_gates_between_zero_and_one : Cert.Pre_gates_between_zero_and_one.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gates_between_zero_and_one.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_gates_between_zero_and_one [hKernelIdeal : Cert.KernelIdeal.Facts] [hPre_gates_between_zero_and_one : Cert.Pre_gates_between_zero_and_one.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gates_between_zero_and_one m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_gates_between_zero_and_one [hReferenceIdeal : Cert.ReferenceIdeal.Facts] [hPre_gates_between_zero_and_one : Cert.Pre_gates_between_zero_and_one.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gates_between_zero_and_one m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_gates_between_zero_and_one [hKernelIdeal : Cert.KernelIdeal.Facts] [hReferenceIdeal : Cert.ReferenceIdeal.Facts] [hPre_gates_between_zero_and_one : Cert.Pre_gates_between_zero_and_one.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gates_between_zero_and_one m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_gates_between_zero_and_one : Cert.Pre_gates_between_zero_and_one.Facts),
    quiescent_Kernel (hKernel := hKernel)
    ∧ quiescent_KernelIdeal (hKernelIdeal := hKernelIdeal)
    ∧ quiescent_KernelIdeal_pre_gates_between_zero_and_one (hKernelIdeal := hKernelIdeal) (hPre_gates_between_zero_and_one := hPre_gates_between_zero_and_one)
    ∧ quiescent_ReferenceIdeal (hReferenceIdeal := hReferenceIdeal)
    ∧ quiescent_ReferenceIdeal_pre_gates_between_zero_and_one (hReferenceIdeal := hReferenceIdeal) (hPre_gates_between_zero_and_one := hPre_gates_between_zero_and_one)
    ∧ preserves_Kernel_KernelIdeal
    ∧ algebraic_KernelIdeal_ReferenceIdeal_pre_gates_between_zero_and_one (hKernelIdeal := hKernelIdeal) (hReferenceIdeal := hReferenceIdeal) (hPre_gates_between_zero_and_one := hPre_gates_between_zero_and_one)
-- ==== Pre_gates_between_zero_and_one.lean ====
abbrev S8x512x8192 : Shape := ⟨3, ![8, 512, 8192]⟩
abbrev S8x1x8192 : Shape := ⟨3, ![8, 1, 8192]⟩
abbrev S1x512x1 : Shape := ⟨3, ![1, 512, 1]⟩
abbrev S512x1x1 : Shape := ⟨3, ![512, 1, 1]⟩
abbrev S512 : Shape := ⟨1, ![512]⟩
abbrev S_ : Shape := ⟨0, ![]⟩

class Facts : Prop where
  bcast_S_S8x1x8192 : S_.BroadcastsInDim S8x1x8192 (![] : Fin 0 → Fin S8x1x8192.rank)
  bcast_S_S8x512x8192 : S_.BroadcastsInDim S8x512x8192 (![] : Fin 0 → Fin S8x512x8192.rank)
  reducesTo_S8x512x8192_S_d0_1_2 : S8x512x8192.ReducesTo [0, 1, 2] S_
  h_S_ : 0 < S_.numel
  bcast_S_S1x512x1 : S_.BroadcastsInDim S1x512x1 (![] : Fin 0 → Fin S1x512x1.rank)
  reducesTo_S1x512x1_S_d0_1_2 : S1x512x1.ReducesTo [0, 1, 2] S_
  reducesTo_S8x1x8192_S_d0_1_2 : S8x1x8192.ReducesTo [0, 1, 2] S_

variable [Facts]

def fn_part1 {F : FTy → Type} [FloatOps F] (main_v1 : FVec F S8x1x8192 .f32) (main_v15 : IVec S_ 1) (main_cst_5 : FVec F S_ .f32) : IVec S_ 1 :=
  let main_v16 : FVec F S8x1x8192 .f32 := broadcastInDim S8x1x8192 ![] bcast_S_S8x1x8192 main_cst_5
  let main_v17 : IVec S8x1x8192 1 := cmpf .oge main_v1 main_v16
  let main_c_6 : IVec S_ 1 := constantI S_ 1 1#1
  let main_v18 : IVec S_ 1 := (fun x v => Host.reduce IntOp.andi x v reducesTo_S8x1x8192_S_d0_1_2 h_S_) main_v17 main_c_6
  let main_v19 : IVec S_ 1 := andi main_v15 main_v18
  let main_cst_7 : FVec F S_ .f32 := constant S_ .f32 0x3F800000#32
  let main_v20 : FVec F S8x1x8192 .f32 := broadcastInDim S8x1x8192 ![] bcast_S_S8x1x8192 main_cst_7
  let main_v21 : IVec S8x1x8192 1 := cmpf .ole main_v1 main_v20
  let main_c_8 : IVec S_ 1 := constantI S_ 1 1#1
  let main_v22 : IVec S_ 1 := (fun x v => Host.reduce IntOp.andi x v reducesTo_S8x1x8192_S_d0_1_2 h_S_) main_v21 main_c_8
  let main_v23 : IVec S_ 1 := andi main_v19 main_v22
  main_v23

def fn {F : FTy → Type} [FloatOps F] (main_arg0 : FVec F S8x512x8192 .f32) (main_arg1 : FVec F S8x1x8192 .f32) (main_arg2 : FVec F S1x512x1 .f32) (main_arg3 : FVec F S1x512x1 .f32) (main_arg4 : FVec F S512x1x1 .f32) (main_arg5 : FVec F S512 .f32) : IVec S_ 1 :=
  let main_cst : FVec F S_ .f32 := constant S_ .f32 0x3D4CCCCD#32
  let main_v0 : FVec F S8x1x8192 .f32 := broadcastInDim S8x1x8192 ![] bcast_S_S8x1x8192 main_cst
  let main_v1 : FVec F S8x1x8192 .f32 := mulf main_arg1 main_v0
  let main_v2 : FVec F S8x512x8192 .f32 := Host.absf main_arg0
  let main_cst_0 : FVec F S_ .f32 := constant S_ .f32 0x7F800000#32
  let main_v3 : FVec F S8x512x8192 .f32 := broadcastInDim S8x512x8192 ![] bcast_S_S8x512x8192 main_cst_0
  let main_v4 : IVec S8x512x8192 1 := cmpf .olt main_v2 main_v3
  let main_c : IVec S_ 1 := constantI S_ 1 1#1
  let main_v5 : IVec S_ 1 := (fun x v => Host.reduce IntOp.andi x v reducesTo_S8x512x8192_S_d0_1_2 h_S_) main_v4 main_c
  let main_v6 : FVec F S1x512x1 .f32 := Host.absf main_arg2
  let main_cst_1 : FVec F S_ .f32 := constant S_ .f32 0x7F800000#32
  let main_v7 : FVec F S1x512x1 .f32 := broadcastInDim S1x512x1 ![] bcast_S_S1x512x1 main_cst_1
  let main_v8 : IVec S1x512x1 1 := cmpf .olt main_v6 main_v7
  let main_c_2 : IVec S_ 1 := constantI S_ 1 1#1
  let main_v9 : IVec S_ 1 := (fun x v => Host.reduce IntOp.andi x v reducesTo_S1x512x1_S_d0_1_2 h_S_) main_v8 main_c_2
  let main_v10 : IVec S_ 1 := andi main_v5 main_v9
  let main_v11 : FVec F S1x512x1 .f32 := Host.absf main_arg3
  let main_cst_3 : FVec F S_ .f32 := constant S_ .f32 0x7F800000#32
  let main_v12 : FVec F S1x512x1 .f32 := broadcastInDim S1x512x1 ![] bcast_S_S1x512x1 main_cst_3
  let main_v13 : IVec S1x512x1 1 := cmpf .olt main_v11 main_v12
  let main_c_4 : IVec S_ 1 := constantI S_ 1 1#1
  let main_v14 : IVec S_ 1 := (fun x v => Host.reduce IntOp.andi x v reducesTo_S1x512x1_S_d0_1_2 h_S_) main_v13 main_c_4
  let main_v15 : IVec S_ 1 := andi main_v10 main_v14
  let main_cst_5 : FVec F S_ .f32 := constant S_ .f32 0x00000000#32
  fn_part1 (F := F) main_v1 main_v15 main_cst_5
-- ==== Kernel.lean ====
abbrev S8x512x8192 : Shape := ⟨3, ![8, 512, 8192]⟩
abbrev S8x1x8192 : Shape := ⟨3, ![8, 1, 8192]⟩
abbrev S1x512x1 : Shape := ⟨3, ![1, 512, 1]⟩
abbrev S512x1x1 : Shape := ⟨3, ![512, 1, 1]⟩
abbrev S512 : Shape := ⟨1, ![512]⟩
abbrev S1x512 : Shape := ⟨2, ![1, 512]⟩
abbrev S2x512 : Shape := ⟨2, ![2, 512]⟩
abbrev S512x1 : Shape := ⟨2, ![512, 1]⟩
abbrev S1x512x4096 : Shape := ⟨3, ![1, 512, 4096]⟩
abbrev S1x1x4096 : Shape := ⟨3, ![1, 1, 4096]⟩
abbrev S2 : Shape := ⟨1, ![2]⟩
abbrev S1 : Shape := ⟨1, ![1]⟩
abbrev S512x4096 : Shape := ⟨2, ![512, 4096]⟩
abbrev S1x4096 : Shape := ⟨2, ![1, 4096]⟩
abbrev S2x1 : Shape := ⟨2, ![2, 1]⟩
abbrev S2x4096 : Shape := ⟨2, ![2, 4096]⟩
abbrev S1x1 : Shape := ⟨2, ![1, 1]⟩
abbrev S1x4095 : Shape := ⟨2, ![1, 4095]⟩
abbrev S1x2 : Shape := ⟨2, ![1, 2]⟩
abbrev S1x4094 : Shape := ⟨2, ![1, 4094]⟩
abbrev S1x4 : Shape := ⟨2, ![1, 4]⟩
abbrev S1x4092 : Shape := ⟨2, ![1, 4092]⟩
abbrev S1x8 : Shape := ⟨2, ![1, 8]⟩
abbrev S1x4088 : Shape := ⟨2, ![1, 4088]⟩
abbrev S1x16 : Shape := ⟨2, ![1, 16]⟩
abbrev S1x4080 : Shape := ⟨2, ![1, 4080]⟩
abbrev S1x32 : Shape := ⟨2, ![1, 32]⟩
abbrev S1x4064 : Shape := ⟨2, ![1, 4064]⟩
abbrev S1x64 : Shape := ⟨2, ![1, 64]⟩
abbrev S1x4032 : Shape := ⟨2, ![1, 4032]⟩
abbrev S1x128 : Shape := ⟨2, ![1, 128]⟩
abbrev S1x3968 : Shape := ⟨2, ![1, 3968]⟩
abbrev S1x256 : Shape := ⟨2, ![1, 256]⟩
abbrev S1x3840 : Shape := ⟨2, ![1, 3840]⟩
abbrev S1x3584 : Shape := ⟨2, ![1, 3584]⟩
abbrev S1x1024 : Shape := ⟨2, ![1, 1024]⟩
abbrev S1x3072 : Shape := ⟨2, ![1, 3072]⟩
abbrev S1x2048 : Shape := ⟨2, ![1, 2048]⟩

abbrev nBuf : Space → Nat
  | .hbm => 12
  | .vmem => 9
  | .smem => 1
  | _ => 0

abbrev bufTy : (tb : Table) → Fin (tcTables nBuf tb) → BufTy
  | .hbm, ⟨0, _⟩ => ⟨S8x512x8192, .f32⟩
  | .hbm, ⟨1, _⟩ => ⟨S8x1x8192, .f32⟩
  | .hbm, ⟨2, _⟩ => ⟨S1x512x1, .f32⟩
  | .hbm, ⟨3, _⟩ => ⟨S1x512x1, .f32⟩
  | .hbm, ⟨4, _⟩ => ⟨S512x1x1, .f32⟩
  | .hbm, ⟨5, _⟩ => ⟨S512, .f32⟩
  | .hbm, ⟨6, _⟩ => ⟨S1x512, .f32⟩
  | .hbm, ⟨7, _⟩ => ⟨S1x512, .f32⟩
  | .hbm, ⟨8, _⟩ => ⟨S2x512, .f32⟩
  | .hbm, ⟨9, _⟩ => ⟨S512x1, .f32⟩
  | .hbm, ⟨10, _⟩ => ⟨S512x1, .f32⟩
  | .hbm, ⟨11, _⟩ => ⟨S8x512x8192, .f32⟩
  | .local _ .vmem, ⟨0, _⟩ => ⟨S1x512x4096, .f32⟩
  | .local _ .vmem, ⟨1, _⟩ => ⟨S1x512x4096, .f32⟩
  | .local _ .vmem, ⟨2, _⟩ => ⟨S1x1x4096, .f32⟩
  | .local _ .vmem, ⟨3, _⟩ => ⟨S1x1x4096, .f32⟩
  | .local _ .vmem, ⟨4, _⟩ => ⟨S2x512, .f32⟩
  | .local _ .vmem, ⟨5, _⟩ => ⟨S512x1, .f32⟩
  | .local _ .vmem, ⟨6, _⟩ => ⟨S512x1, .f32⟩
  | .local _ .vmem, ⟨7, _⟩ => ⟨S1x512x4096, .f32⟩
  | .local _ .vmem, ⟨8, _⟩ => ⟨S1x512x4096, .f32⟩
  | .local _ .smem, ⟨0, _⟩ => ⟨S2, .f32⟩
  | _, _ => ⟨S8x512x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S8x512x8192 : Shape := ⟨3, ![8, 512, 8192]⟩
abbrev S8x1x8192 : Shape := ⟨3, ![8, 1, 8192]⟩
abbrev S1x512x1 : Shape := ⟨3, ![1, 512, 1]⟩
abbrev S512x1x1 : Shape := ⟨3, ![512, 1, 1]⟩
abbrev S512 : Shape := ⟨1, ![512]⟩
abbrev S_ : Shape := ⟨0, ![]⟩
abbrev S1x1 : Shape := ⟨2, ![1, 1]⟩
abbrev S1x1x1 : Shape := ⟨3, ![1, 1, 1]⟩
abbrev S8192x8x512 : Shape := ⟨3, ![8192, 8, 512]⟩
abbrev S8192x8x1 : Shape := ⟨3, ![8192, 8, 1]⟩
abbrev S8x512 : Shape := ⟨2, ![8, 512]⟩
abbrev S1x8x512 : Shape := ⟨3, ![1, 8, 512]⟩
abbrev S1x8x1 : Shape := ⟨3, ![1, 8, 1]⟩
abbrev S8x1 : Shape := ⟨2, ![8, 1]⟩
abbrev S8x8192 : Shape := ⟨2, ![8, 8192]⟩

abbrev nBuf : Space → Nat
  | .hbm => 136
  | .vmem => 0
  | .smem => 0
  | _ => 0

abbrev hbmTy0_0 (i : Nat) : BufTy := match i % 128 with
  | 0 => ⟨S8x512x8192, .f32⟩
  | 1 => ⟨S8x1x8192, .f32⟩
  | 2 => ⟨S1x512x1, .f32⟩
  | 3 => ⟨S1x512x1, .f32⟩
  | 4 => ⟨S512x1x1, .f32⟩
  | 5 => ⟨S512, .f32⟩
  | 6 => ⟨S_, .f32⟩
  | 7 => ⟨S8x1x8192, .f32⟩
  | 8 => ⟨S8x1x8192, .f32⟩
  | 9 => ⟨S_, .f32⟩
  | 10 => ⟨S1x1, .f32⟩
  | 11 => ⟨S_, .f32⟩
  | 12 => ⟨S1x1, .f32⟩
  | 13 => ⟨S1x1, .f32⟩
  | 14 => ⟨S1x1x1, .f32⟩
  | 15 => ⟨S1x512x1, .f32⟩
  | 16 => ⟨S1x512x1, .f32⟩
  | 17 => ⟨S1x512x1, .f32⟩
  | 18 => ⟨S_, .f32⟩
  | 19 => ⟨S1x1, .f32⟩
  | 20 => ⟨S1x1x1, .f32⟩
  | 21 => ⟨S1x512x1, .f32⟩
  | 22 => ⟨S1x512x1, .f32⟩
  | 23 => ⟨S8192x8x512, .f32⟩
  | 24 => ⟨S8192x8x1, .f32⟩
  | 25 => ⟨S_, .f32⟩
  | 26 => ⟨S8x512, .f32⟩
  | 27 => ⟨S_, .f32⟩
  | 28 => ⟨S8192x8x512, .f32⟩
  | 29 => ⟨S_, .i32⟩
  | 30 => ⟨S8192x8x512, .f32⟩
  | 31 => ⟨S8192x8x1, .f32⟩
  | 32 => ⟨S_, .i32⟩
  | 33 => ⟨S8x512, .f32⟩
  | 34 => ⟨S8192x8x512, .f32⟩
  | 35 => ⟨S_, .i32⟩
  | 36 => ⟨S_, .i1⟩
  | 37 => ⟨S_, .i32⟩
  | 38 => ⟨S_, .i32⟩
  | 39 => ⟨S1x8x512, .f32⟩
  | 40 => ⟨S8x512, .f32⟩
  | 41 => ⟨S_, .i32⟩
  | 42 => ⟨S_, .i32⟩
  | 43 => ⟨S1x8x1, .f32⟩
  | 44 => ⟨S8x1, .f32⟩
  | 45 => ⟨S_, .f32⟩
  | 46 => ⟨S8x1, .f32⟩
  | 47 => ⟨S8x1, .f32⟩
  | 48 => ⟨S8x512, .f32⟩
  | 49 => ⟨S8x512, .f32⟩
  | 50 => ⟨S8x512, .f32⟩
  | 51 => ⟨S8x512, .f32⟩
  | 52 => ⟨S8x512, .f32⟩
  | 53 => ⟨S1x8x512, .f32⟩
  | 54 => ⟨S_, .i32⟩
  | 55 => ⟨S_, .i32⟩
  | 56 => ⟨S8192x8x512, .f32⟩
  | 57 => ⟨S_, .i32⟩
  | 58 => ⟨S_, .i32⟩
  | 59 => ⟨S8x512x8192, .f32⟩
  | 60 => ⟨S8x512x8192, .f32⟩
  | 61 => ⟨S8x512x8192, .f32⟩
  | 62 => ⟨S_, .f32⟩
  | 63 => ⟨S8x8192, .f32⟩
  | 64 => ⟨S8x1x8192, .f32⟩
  | 65 => ⟨S8x512x8192, .f32⟩
  | 66 => ⟨S8x512x8192, .f32⟩
  | 67 => ⟨S_, .f32⟩
  | 68 => ⟨S1x1, .f32⟩
  | 69 => ⟨S_, .f32⟩
  | 70 => ⟨S1x1, .f32⟩
  | 71 => ⟨S1x1, .f32⟩
  | 72 => ⟨S1x1x1, .f32⟩
  | 73 => ⟨S1x512x1, .f32⟩
  | 74 => ⟨S1x512x1, .f32⟩
  | 75 => ⟨S1x512x1, .f32⟩
  | 76 => ⟨S_, .f32⟩
  | 77 => ⟨S1x1, .f32⟩
  | 78 => ⟨S1x1x1, .f32⟩
  | 79 => ⟨S1x512x1, .f32⟩
  | 80 => ⟨S1x512x1, .f32⟩
  | 81 => ⟨S8x512x8192, .f32⟩
  | 82 => ⟨S8192x8x512, .f32⟩
  | 83 => ⟨S8192x8x1, .f32⟩
  | 84 => ⟨S_, .f32⟩
  | 85 => ⟨S8x512, .f32⟩
  | 86 => ⟨S_, .f32⟩
  | 87 => ⟨S8192x8x512, .f32⟩
  | 88 => ⟨S_, .i32⟩
  | 89 => ⟨S8192x8x512, .f32⟩
  | 90 => ⟨S8192x8x1, .f32⟩
  | 91 => ⟨S_, .i32⟩
  | 92 => ⟨S8x512, .f32⟩
  | 93 => ⟨S8192x8x512, .f32⟩
  | 94 => ⟨S_, .i32⟩
  | 95 => ⟨S_, .i1⟩
  | 96 => ⟨S_, .i32⟩
  | 97 => ⟨S_, .i32⟩
  | 98 => ⟨S1x8x512, .f32⟩
  | 99 => ⟨S8x512, .f32⟩
  | 100 => ⟨S_, .i32⟩
  | 101 => ⟨S_, .i32⟩
  | 102 => ⟨S1x8x1, .f32⟩
  | 103 => ⟨S8x1, .f32⟩
  | 104 => ⟨S_, .f32⟩
  | 105 => ⟨S8x1, .f32⟩
  | 106 => ⟨S8x1, .f32⟩
  | 107 => ⟨S8x512, .f32⟩
  | 108 => ⟨S8x512, .f32⟩
  | 109 => ⟨S8x512, .f32⟩
  | 110 => ⟨S8x512, .f32⟩
  | 111 => ⟨S8x512, .f32⟩
  | 112 => ⟨S1x8x512, .f32⟩
  | 113 => ⟨S_, .i32⟩
  | 114 => ⟨S_, .i32⟩
  | 115 => ⟨S8192x8x512, .f32⟩
  | 116 => ⟨S_, .i32⟩
  | 117 => ⟨S_, .i32⟩
  | 118 => ⟨S8x512x8192, .f32⟩
  | 119 => ⟨S8x512x8192, .f32⟩
  | 120 => ⟨S8x512x8192, .f32⟩
  | 121 => ⟨S_, .f32⟩
  | 122 => ⟨S8x8192, .f32⟩
  | 123 => ⟨S8x1x8192, .f32⟩
  | 124 => ⟨S_, .f32⟩
  | 125 => ⟨S8x1x8192, .f32⟩
  | 126 => ⟨S8x1x8192, .f32⟩
  | 127 => ⟨S8x1x8192, .f32⟩
  | _ => ⟨S8x512x8192, .f32⟩

abbrev hbmTy0_1 (i : Nat) : BufTy := match i % 128 with
  | 0 => ⟨S8x512x8192, .f32⟩
  | 1 => ⟨S8x512x8192, .f32⟩
  | 2 => ⟨S1x512x1, .f32⟩
  | 3 => ⟨S8x512x8192, .f32⟩
  | 4 => ⟨S8x512x8192, .f32⟩
  | 5 => ⟨S1x512x1, .f32⟩
  | 6 => ⟨S8x512x8192, .f32⟩
  | 7 => ⟨S8x512x8192, .f32⟩
  | _ => ⟨S8x512x8192, .f32⟩

abbrev hbmTy (i : Nat) : BufTy := match i / 128 with
  | 0 => hbmTy0_0 i
  | 1 => hbmTy0_1 i
  | _ => ⟨S8x512x8192, .f32⟩

abbrev bufTy : (tb : Table) → Fin (tcTables nBuf tb) → BufTy
  | .hbm, ⟨i, _⟩ => hbmTy i
  | _, _ => ⟨S8x512x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_c : Ref sig .tc := ⟨.hbm, 29, rfl⟩
abbrev main_v17_0 : Ref sig .tc := ⟨.hbm, 30, rfl⟩
abbrev main_v17_1 : Ref sig .tc := ⟨.hbm, 31, rfl⟩
abbrev main_v17_2 : Ref sig .tc := ⟨.hbm, 32, rfl⟩
abbrev main_v17_3 : Ref sig .tc := ⟨.hbm, 33, rfl⟩
abbrev main_v17_4 : Ref sig .tc := ⟨.hbm, 34, rfl⟩
abbrev main_while0c_c_18 : Ref sig .tc := ⟨.hbm, 35, rfl⟩
abbrev main_while0c_v58 : Ref sig .tc := ⟨.hbm, 36, rfl⟩
abbrev main_while0b_call0_c : Ref sig .tc := ⟨.hbm, 37, rfl⟩
abbrev main_while0b_call0_c_0 : Ref sig .tc := ⟨.hbm, 38, rfl⟩
abbrev main_while0b_call0_v0 : Ref sig .tc := ⟨.hbm, 39, rfl⟩
abbrev main_while0b_v58 : Ref sig .tc := ⟨.hbm, 40, rfl⟩
abbrev main_while0b_call1_c : Ref sig .tc := ⟨.hbm, 41, rfl⟩
abbrev main_while0b_call1_c_0 : Ref sig .tc := ⟨.hbm, 42, rfl⟩
abbrev main_while0b_call1_v0 : Ref sig .tc := ⟨.hbm, 43, rfl⟩
abbrev main_while0b_v59 : Ref sig .tc := ⟨.hbm, 44, rfl⟩
abbrev main_while0b_cst_18 : Ref sig .tc := ⟨.hbm, 45, rfl⟩
abbrev main_while0b_v60 : Ref sig .tc := ⟨.hbm, 46, rfl⟩
abbrev main_while0b_v61 : Ref sig .tc := ⟨.hbm, 47, rfl⟩
abbrev main_while0b_v62 : Ref sig .tc := ⟨.hbm, 48, rfl⟩
abbrev main_while0b_v63 : Ref sig .tc := ⟨.hbm, 49, rfl⟩
abbrev main_while0b_v64 : Ref sig .tc := ⟨.hbm, 50, rfl⟩
abbrev main_while0b_v65 : Ref sig .tc := ⟨.hbm, 51, rfl⟩
abbrev main_while0b_v66 : Ref sig .tc := ⟨.hbm, 52, rfl⟩
abbrev main_while0b_call2_v0 : Ref sig .tc := ⟨.hbm, 53, rfl⟩
abbrev main_while0b_call2_c : Ref sig .tc := ⟨.hbm, 54, rfl⟩
abbrev main_while0b_call2_c_0 : Ref sig .tc := ⟨.hbm, 55, rfl⟩
abbrev main_while0b_v67 : Ref sig .tc := ⟨.hbm, 56, rfl⟩
abbrev main_while0b_c_19 : Ref sig .tc := ⟨.hbm, 57, rfl⟩
abbrev main_while0b_v68 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_cst_5 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_cst_6 : Ref sig .tc := ⟨.hbm, 67, rfl⟩
abbrev main_v25 : Ref sig .tc := ⟨.hbm, 68, rfl⟩
abbrev main_cst_7 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_cst_8 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_cst_9 : Ref sig .tc := ⟨.hbm, 84, rfl⟩
abbrev main_v39 : Ref sig .tc := ⟨.hbm, 85, rfl⟩
abbrev main_cst_10 : Ref sig .tc := ⟨.hbm, 86, rfl⟩
abbrev main_v40 : Ref sig .tc := ⟨.hbm, 87, rfl⟩
abbrev main_c_11 : Ref sig .tc := ⟨.hbm, 88, rfl⟩
abbrev main_v41_0 : Ref sig .tc := ⟨.hbm, 89, rfl⟩
abbrev main_v41_1 : Ref sig .tc := ⟨.hbm, 90, rfl⟩
abbrev main_v41_2 : Ref sig .tc := ⟨.hbm, 91, rfl⟩
abbrev main_v41_3 : Ref sig .tc := ⟨.hbm, 92, rfl⟩
abbrev main_v41_4 : Ref sig .tc := ⟨.hbm, 93, rfl⟩
abbrev main_while1c_c_18 : Ref sig .tc := ⟨.hbm, 94, rfl⟩
abbrev main_while1c_v58 : Ref sig .tc := ⟨.hbm, 95, rfl⟩
abbrev main_while1b_call3_c : Ref sig .tc := ⟨.hbm, 96, rfl⟩
abbrev main_while1b_call3_c_0 : Ref sig .tc := ⟨.hbm, 97, rfl⟩
abbrev main_while1b_call3_v0 : Ref sig .tc := ⟨.hbm, 98, rfl⟩
abbrev main_while1b_v58 : Ref sig .tc := ⟨.hbm, 99, rfl⟩
abbrev main_while1b_call4_c : Ref sig .tc := ⟨.hbm, 100, rfl⟩
abbrev main_while1b_call4_c_0 : Ref sig .tc := ⟨.hbm, 101, rfl⟩
abbrev main_while1b_call4_v0 : Ref sig .tc := ⟨.hbm, 102, rfl⟩
abbrev main_while1b_v59 : Ref sig .tc := ⟨.hbm, 103, rfl⟩
abbrev main_while1b_cst_18 : Ref sig .tc := ⟨.hbm, 104, rfl⟩
abbrev main_while1b_v60 : Ref sig .tc := ⟨.hbm, 105, rfl⟩
abbrev main_while1b_v61 : Ref sig .tc := ⟨.hbm, 106, rfl⟩
abbrev main_while1b_v62 : Ref sig .tc := ⟨.hbm, 107, rfl⟩
abbrev main_while1b_v63 : Ref sig .tc := ⟨.hbm, 108, rfl⟩
abbrev main_while1b_v64 : Ref sig .tc := ⟨.hbm, 109, rfl⟩
abbrev main_while1b_v65 : Ref sig .tc := ⟨.hbm, 110, rfl⟩
abbrev main_while1b_v66 : Ref sig .tc := ⟨.hbm, 111, rfl⟩
abbrev main_while1b_call5_v0 : Ref sig .tc := ⟨.hbm, 112, rfl⟩
abbrev main_while1b_call5_c : Ref sig .tc := ⟨.hbm, 113, rfl⟩
abbrev main_while1b_call5_c_0 : Ref sig .tc := ⟨.hbm, 114, rfl⟩
abbrev main_while1b_v67 : Ref sig .tc := ⟨.hbm, 115, rfl⟩
abbrev main_while1b_c_19 : Ref sig .tc := ⟨.hbm, 116, rfl⟩
abbrev main_while1b_v68 : Ref sig .tc := ⟨.hbm, 117, rfl⟩
abbrev main_v42 : Ref sig .tc := ⟨.hbm, 118, rfl⟩
abbrev main_v43 : Ref sig .tc := ⟨.hbm, 119, rfl⟩
abbrev main_v44 : Ref sig .tc := ⟨.hbm, 120, rfl⟩
abbrev main_cst_12 : Ref sig .tc := ⟨.hbm, 121, rfl⟩
abbrev main_v45 : Ref sig .tc := ⟨.hbm, 122, rfl⟩
abbrev main_v46 : Ref sig .tc := ⟨.hbm, 123, rfl⟩
abbrev main_cst_13 : Ref sig .tc := ⟨.hbm, 124, rfl⟩
abbrev main_v47 : Ref sig .tc := ⟨.hbm, 125, rfl⟩
abbrev main_v48 : Ref sig .tc := ⟨.hbm, 126, rfl⟩
abbrev main_v49 : Ref sig .tc := ⟨.hbm, 127, rfl⟩
abbrev main_v50 : Ref sig .tc := ⟨.hbm, 128, rfl⟩
abbrev main_v51 : Ref sig .tc := ⟨.hbm, 129, rfl⟩
abbrev main_v52 : Ref sig .tc := ⟨.hbm, 130, rfl⟩
abbrev main_v53 : Ref sig .tc := ⟨.hbm, 131, rfl⟩
abbrev main_v54 : Ref sig .tc := ⟨.hbm, 132, rfl⟩
abbrev main_v55 : Ref sig .tc := ⟨.hbm, 133, rfl⟩
abbrev main_v56 : Ref sig .tc := ⟨.hbm, 134, rfl⟩
abbrev main_v57 : Ref sig .tc := ⟨.hbm, 135, rfl⟩

abbrev nD : Nat := 1
abbrev τ : Topo := Topo.v7x

variable {F : FTy → Type} [FloatOps F]

abbrev main_while0_count : Scf.Loop 32 := ⟨0#32, 8192#32, 1#32⟩

abbrev main_while1_count : Scf.Loop 32 := ⟨0#32, 8192#32, 1#32⟩
-- ==== Proof.Recur.lean ====
/-
  The mathematics over the reals: a first-order linear recurrence, the doubling scheme that evaluates it level by
  level, and the two ways of writing the gated running mean and variance.
-/
module

public import Mathlib.Analysis.SpecialFunctions.Exp
public import Mathlib.Algebra.BigOperators.Field
public import Mathlib.Tactic.Ring
public import Mathlib.Tactic.Linarith

@[expose] public section

noncomputable section

namespace Cert.Recur

/-- The state after `k` steps of `y ← a·y + b` from `c`. -/
def st (c : ℝ) (a b : ℕ → ℝ) : ℕ → ℝ
  | 0 => c
  | k + 1 => a k * st c a b k + b k

/-- A recurrence run for `n + k` steps is one run for `n` steps and continued for `k`. -/
theorem st_add (c : ℝ) (a b : ℕ → ℝ) (n k : ℕ) :
    st c a b (n + k) = st (st c a b n) (fun t => a (n + t)) (fun t => b (n + t)) k := by
  induction k with
  | zero => rfl
  | succ k ih =>
    show a (n + k) * st c a b (n + k) + b (n + k) = _
    rw [ih]
    rfl

/-- The state after `n` steps depends on the first `n` coefficients only. -/
theorem st_congr {c : ℝ} {a b a' b' : ℕ → ℝ} {n : ℕ} (ha : ∀ t < n, a t = a' t) (hb : ∀ t < n, b t = b' t) :
    st c a b n = st c a' b' n := by
  induction n with
  | zero => rfl
  | succ n ih =>
    simp only [st]
    rw [ha n (by omega), hb n (by omega), ih (fun t h => ha t (by omega)) fun t h => hb t (by omega)]

/-- A recurrence with nonnegative coefficients keeps a nonnegative state. -/
theorem st_nonneg {c : ℝ} {a b : ℕ → ℝ} (hc : 0 ≤ c) (ha : ∀ t, 0 ≤ a t) (hb : ∀ t, 0 ≤ b t) (n : ℕ) : 0 ≤ st c a b n := by
  induction n with
  | zero => exact hc
  | succ n ih => exact add_nonneg (mul_nonneg (ha n) ih) (hb n)

/-- A weighted sum of runs from zero is the run of the weighted sum of what they are fed. -/
theorem st_sum {ι : Type} (s : Finset ι) (w : ι → ℝ) (a : ℕ → ℝ) (b : ι → ℕ → ℝ) (n : ℕ) :
    ∑ i ∈ s, w i * st 0 a (b i) n = st 0 a (fun t => ∑ i ∈ s, w i * b i t) n := by
  induction n with
  | zero => simp [st]
  | succ n ih =>
    simp only [st, mul_add, Finset.sum_add_distrib, ← ih, Finset.mul_sum]
    congr 1
    exact Finset.sum_congr rfl fun i _ => by ring

/-- A sequence moved `d` places later, with `f` in the places freed. -/
def later (d : ℕ) (f : ℝ) (r : ℕ → ℝ) (t : ℕ) : ℝ := if t < d then f else r (t - d)

/-- One doubling of the products of coefficients. -/
def stepA (d : ℕ) (A : ℕ → ℝ) (t : ℕ) : ℝ := A t * later d 1 A t
/-- One doubling of the windowed sums. -/
def stepB (d : ℕ) (A B : ℕ → ℝ) (t : ℕ) : ℝ := B t + A t * later d 0 B t

/-- `A`, `B` describe a window of `d` steps of the recurrence: the state after step `t` from the state `d` steps
    before, or from the start where there are not as many. -/
def Window (c : ℝ) (a b : ℕ → ℝ) (d : ℕ) (A B : ℕ → ℝ) : Prop :=
  ∀ t, st c a b (t + 1) = B t + A t * (if t < d then c else st c a b (t - d + 1))

/-- The coefficients themselves describe a window of one step. -/
theorem Window.one (c : ℝ) (a b : ℕ → ℝ) : Window c a b 1 a b := fun t => by
  rcases Nat.eq_zero_or_pos t with rfl | h
  · simp only [st]
    rw [if_pos (by omega)]
    ring
  · obtain ⟨s, rfl⟩ : ∃ s, t = s + 1 := ⟨t - 1, by omega⟩
    rw [if_neg (by omega), show s + 1 - 1 + 1 = s + 1 by omega]
    simp only [st]
    ring

/-- One doubling makes a window of twice the length. -/
theorem Window.double {c : ℝ} {a b A B : ℕ → ℝ} {d : ℕ} (h : Window c a b d A B) (e : ℕ) (he : e = d + d) :
    Window c a b e (stepA d A) (stepB d A B) := fun t => by
  subst he
  rw [h t]
  simp only [stepA, stepB, later]
  by_cases h1 : t < d
  · simp only [if_pos h1, if_pos (show t < d + d by omega)]
    ring
  · simp only [if_neg h1]
    rw [h (t - d)]
    by_cases h2 : t < d + d
    · rw [if_pos (show t - d < d by omega), if_pos h2]; ring
    · rw [if_neg (show ¬ t - d < d by omega), if_neg h2, show t - d - d = t - (d + d) by omega]; ring

/-- The products of coefficients after the twelve doublings, level by level. -/
def lvA (a : ℕ → ℝ) : ℕ → ℕ → ℝ
  | 0 => a
  | k + 1 => stepA (2 ^ k) (lvA a k)
/-- The windowed sums, level by level. -/
def lvB (a b : ℕ → ℝ) : ℕ → ℕ → ℝ
  | 0 => b
  | k + 1 => stepB (2 ^ k) (lvA a k) (lvB a b k)

/-- Level `k` describes a window of `2 ^ k` steps. -/
theorem window_lv (c : ℝ) (a b : ℕ → ℝ) (k : ℕ) : Window c a b (2 ^ k) (lvA a k) (lvB a b k) := by
  induction k with
  | zero => exact Window.one c a b
  | succ k ih => exact ih.double _ (by rw [pow_succ]; omega)

/-- Twelve levels give every state of a tile of 4096 steps. -/
theorem tile_state (c : ℝ) (a b : ℕ → ℝ) (t : ℕ) (ht : t < 4096) : lvB a b 12 t + lvA a 12 t * c = st c a b (t + 1) := by
  rw [window_lv c a b 12 t, if_pos (by simpa using ht)]

/-! ## The gated mean and variance -/

variable {ι : Type} [Fintype ι]

/-- The running mean after step `t`: the recurrence over the weighted sums of the channels. -/
def mean (wa : ι → ℝ) (gm : ℕ → ℝ) (x : ι → ℕ → ℝ) (t : ℕ) : ℝ :=
  st 0 (fun s => 1 - gm s) (fun s => gm s * ∑ i, wa i * x i s) (t + 1)

/-- The running variance after step `t`, the weighted squares opened about the mean. -/
def var (wb : ι → ℝ) (gm : ℕ → ℝ) (x : ι → ℕ → ℝ) (μ : ℕ → ℝ) (t : ℕ) : ℝ :=
  st 0 (fun s => 1 - gm s) (fun s => gm s * ((∑ i, wb i * (x i s * x i s)) - 2 * μ s * (∑ i, wb i * x i s) + μ s * μ s)) (t + 1)

/-- The mean is the weighted sum of the channels' own running means. -/
theorem mean_eq (wa : ι → ℝ) (gm : ℕ → ℝ) (x : ι → ℕ → ℝ) (t : ℕ) :
    ∑ i, wa i * st 0 (fun s => 1 - gm s) (fun s => gm s * x i s) (t + 1) = mean wa gm x t := by
  rw [st_sum, mean]
  refine st_congr (fun _ _ => rfl) fun s _ => ?_
  rw [Finset.mul_sum]
  exact Finset.sum_congr rfl fun i _ => by ring

/-- The variance is the weighted sum of the channels' own running means of squared deviations, the weights summing to one. -/
theorem var_eq (wb : ι → ℝ) (hw : ∑ i, wb i = 1) (gm : ℕ → ℝ) (x : ι → ℕ → ℝ) (μ : ℕ → ℝ) (t : ℕ) :
    ∑ i, wb i * st 0 (fun s => 1 - gm s) (fun s => gm s * ((x i s - μ s) * (x i s - μ s))) (t + 1) = var wb gm x μ t := by
  rw [st_sum, var]
  refine st_congr (fun _ _ => rfl) fun s _ => ?_
  have h : ∀ i, wb i * (gm s * ((x i s - μ s) * (x i s - μ s)))
      = gm s * (wb i * (x i s * x i s)) - gm s * (2 * μ s) * (wb i * x i s) + gm s * (μ s * μ s) * wb i := fun i => by ring
  simp only [h, Finset.sum_add_distrib, Finset.sum_sub_distrib, ← Finset.mul_sum, hw]
  ring

/-- The variance is nonnegative, the gates lying between zero and one and the weights being nonnegative. -/
theorem var_nonneg (wb : ι → ℝ) (hw : ∑ i, wb i = 1) (hw0 : ∀ i, 0 ≤ wb i) (gm : ℕ → ℝ) (h0 : ∀ s, 0 ≤ gm s) (h1 : ∀ s, gm s ≤ 1)
    (x : ι → ℕ → ℝ) (μ : ℕ → ℝ) (t : ℕ) : 0 ≤ var wb gm x μ t := by
  rw [← var_eq wb hw]
  exact Finset.sum_nonneg fun i _ => mul_nonneg (hw0 i)
    (st_nonneg le_rfl (fun s => sub_nonneg.mpr (h1 s)) (fun s => mul_nonneg (h0 s) (mul_self_nonneg _)) _)

/-! ## Softmax weights -/

/-- The softmax weight of channel `i`. -/
def sm (w : ι → ℝ) (i : ι) : ℝ := Real.exp (w i) / ∑ j, Real.exp (w j)

/-- Softmax weights are nonnegative. -/
theorem sm_nonneg (w : ι → ℝ) (i : ι) : 0 ≤ sm w i :=
  div_nonneg (Real.exp_pos _).le (Finset.sum_nonneg fun _ _ => (Real.exp_pos _).le)

/-- Softmax weights sum to one. -/
theorem sm_sum [Nonempty ι] (w : ι → ℝ) : ∑ i, sm w i = 1 := by
  unfold sm
  rw [← Finset.sum_div]
  exact div_self (Finset.sum_pos (fun _ _ => Real.exp_pos _) Finset.univ_nonempty).ne'

/-- Softmax does not see a common shift of its arguments. -/
theorem sm_shift (w : ι → ℝ) (μ : ℝ) (i : ι) : Real.exp (w i - μ) / ∑ j, Real.exp (w j - μ) = sm w i := by
  unfold sm
  simp only [Real.exp_sub, ← Finset.sum_div]
  exact div_div_div_cancel_right₀ (Real.exp_pos μ).ne' _ _

end Cert.Recur

end
-- ==== Proof.Lanes.lean ====
/-
  One row of 4096 lanes holding reals, at the ideal floats: what sums, products and the shift of the doubling scheme
  make of it.
-/
module

public import proofs.«01_k».proof.Proof.Recur
public import Idealize.ShloMosaic.Lib.Pointwise
public import Idealize.ShloMosaic.Lib.Pointwise.IndexVar

@[expose] public section

noncomputable section

namespace Cert.Lanes

open Idealize.ShloMosaic Cert.Recur

/-- A row of `n` lanes. -/
abbrev Row (n : ℕ) : Shape := ⟨2, ![1, n]⟩

/-- The row `v` holds the reals `r`. -/
def Holds (v : FVec Ideal (Row 4096) .f32) (r : ℕ → ℝ) : Prop := ∀ t : Fin 4096, v (ix2 0 t) = ((r t : ℝ) : EReal)

/-- A row holds any reals that agree on its lanes. -/
theorem Holds.congr {v : FVec Ideal (Row 4096) .f32} {r r' : ℕ → ℝ} (h : Holds v r) (e : ∀ t < 4096, r t = r' t) : Holds v r' :=
  fun t => by rw [h t, e t t.isLt]

/-- Sums of rows hold sums. -/
theorem Holds.add {u v : FVec Ideal (Row 4096) .f32} {r s : ℕ → ℝ} (hu : Holds u r) (hv : Holds v s) :
    Holds (addf u v) (fun t => r t + s t) := fun t => by
  show (u (ix2 0 t) + v (ix2 0 t) : EReal) = _
  rw [hu t, hv t, EReal.coe_add]

/-- Differences of rows hold differences. -/
theorem Holds.sub {u v : FVec Ideal (Row 4096) .f32} {r s : ℕ → ℝ} (hu : Holds u r) (hv : Holds v s) :
    Holds (subf u v) (fun t => r t - s t) := fun t => by
  show (u (ix2 0 t) - v (ix2 0 t) : EReal) = _
  rw [hu t, hv t, EReal.coe_sub]

/-- Products of rows hold products. -/
theorem Holds.mul {u v : FVec Ideal (Row 4096) .f32} {r s : ℕ → ℝ} (hu : Holds u r) (hv : Holds v s) :
    Holds (mulf u v) (fun t => r t * s t) := fun t => by
  show (u (ix2 0 t) * v (ix2 0 t) : EReal) = _
  rw [hu t, hv t, EReal.coe_mul]

/-- A row of one real. -/
theorem Holds.const {e : Ideal .f32} {x : ℝ} (h : e = (x : EReal)) : Holds (broadcast (Row 4096) e) (fun _ => x) := fun _ => h

/-- The shift of the doubling scheme: `d` lanes of a fill, then the row's first lanes. -/
theorem Holds.later {d n : ℕ} {e : Ideal .f32} {x : ℝ} {v : FVec Ideal (Row 4096) .f32} {r : ℕ → ℝ} (he : e = (x : EReal)) (hv : Holds v r)
    (hs : (Row 4096).Slices ![0, 0] (Row n)) (hc : Shape.Concatenates [Row d, Row n] (Row 4096) 1) :
    Holds (concatenate (Row 4096) 1 [⟨Row d, broadcast (Row d) e⟩, ⟨Row n, extractStridedSlice (Row n) ![0, 0] v hs⟩] hc) (later d x r) := fun t => by
  rw [concatenate_pair_apply]
  unfold Recur.later
  by_cases h : t.val < d
  · rw [if_pos h]
    exact (dif_pos h).trans he
  · rw [if_neg h]
    refine (dif_neg h).trans ((congrArg v (funext fun b => Fin.ext ?_)).trans (hv ⟨t.val - d, by omega⟩))
    match b with
    | 0 => rfl
    | 1 => exact Nat.zero_add _

/-- One doubling of a row of windowed sums. -/
theorem Holds.stepB {d n : ℕ} {e : Ideal .f32} {A B : FVec Ideal (Row 4096) .f32} {α β : ℕ → ℝ} (he : e = ((0 : ℝ) : EReal)) (hA : Holds A α) (hB : Holds B β)
    (hs : (Row 4096).Slices ![0, 0] (Row n)) (hc : Shape.Concatenates [Row d, Row n] (Row 4096) 1) :
    Holds (addf B (mulf A (concatenate (Row 4096) 1 [⟨Row d, broadcast (Row d) e⟩, ⟨Row n, extractStridedSlice (Row n) ![0, 0] B hs⟩] hc)))
      (Recur.stepB d α β) := hB.add (hA.mul (hB.later he hs hc))

/-- One doubling of a row of products. -/
theorem Holds.stepA {d n : ℕ} {e : Ideal .f32} {A : FVec Ideal (Row 4096) .f32} {α : ℕ → ℝ} (he : e = ((1 : ℝ) : EReal)) (hA : Holds A α)
    (hs : (Row 4096).Slices ![0, 0] (Row n)) (hc : Shape.Concatenates [Row d, Row n] (Row 4096) 1) :
    Holds (mulf A (concatenate (Row 4096) 1 [⟨Row d, broadcast (Row d) e⟩, ⟨Row n, extractStridedSlice (Row n) ![0, 0] A hs⟩] hc))
      (Recur.stepA d α) := hA.mul (hA.later he hs hc)

/-! ## Constants -/

/-- The pattern of zero. -/
theorem zero_bits : (FloatOps.ofBits .f32 0x00000000#32 : Ideal .f32) = ((0 : ℝ) : EReal) := Ideal.ofBits_zero_f32
/-- The pattern of one. -/
theorem one_bits : (FloatOps.ofBits .f32 0x3F800000#32 : Ideal .f32) = ((1 : ℝ) : EReal) := Ideal.ofBits_one_f32
/-- The pattern of two. -/
theorem two_bits : (FloatOps.ofBits .f32 0x40000000#32 : Ideal .f32) = ((2 : ℝ) : EReal) := by
  show Ideal.ofBits .f32 0x40000000#32 = _
  simp [Ideal.ofBits, Ideal.ieee, -EReal.coe_mul]; norm_num

/-- The momentum the gate is scaled by, 0.05 to single precision. -/
def κ : ℝ := 13421773 / 268435456
/-- The guard added to the variance, 1e-6 to single precision. -/
def ε : ℝ := 8796093 / 8796093022208

/-- The guard is positive. -/
theorem ε_pos : 0 < ε := by unfold ε; norm_num

/-- The pattern of the momentum. -/
theorem κ_bits : (FloatOps.ofBits .f32 0x3D4CCCCD#32 : Ideal .f32) = (κ : EReal) := by
  show Ideal.ofBits .f32 0x3D4CCCCD#32 = _
  unfold κ
  simp [Ideal.ofBits, Ideal.ieee, -EReal.coe_mul]; norm_num
/-- The pattern of the guard. -/
theorem ε_bits : (FloatOps.ofBits .f32 0x358637BD#32 : Ideal .f32) = (ε : EReal) := by
  show Ideal.ofBits .f32 0x358637BD#32 = _
  unfold ε
  simp [Ideal.ofBits, Ideal.ieee, -EReal.coe_mul]; norm_num

/-! ## Reals through the ideal operations -/

/-- A finite sum of reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The greatest of finitely many reals is a real. -/
theorem coe_max {ι : Type} [Fintype ι] [Nonempty ι] (f : ι → ℝ) :
    ∃ μ : ℝ, Finset.univ.fold (max : EReal → EReal → EReal) ⊥ (fun i => ((f i : ℝ) : EReal)) = (μ : EReal) := by
  classical
  have key : ∀ s : Finset ι, s.Nonempty → ∃ μ : ℝ, s.fold (max : EReal → EReal → EReal) ⊥ (fun i => ((f i : ℝ) : EReal)) = (μ : EReal) := by
    intro s hs
    induction hs using Finset.Nonempty.cons_induction with
    | singleton a => exact ⟨f a, by simp⟩
    | cons a s ha hs ih =>
      obtain ⟨μ, h⟩ := ih
      exact ⟨max (f a) μ, by rw [Finset.fold_cons, h]; exact (EReal.coe_strictMono.monotone.map_max).symm⟩
  exact key _ Finset.univ_nonempty

/-- A quotient of reals by a positive real. -/
theorem coe_div {x y : ℝ} (hy : 0 < y) : Ideal.div (x : EReal) (y : EReal) = ((x / y : ℝ) : EReal) := by
  unfold Ideal.div
  rw [if_neg (by exact_mod_cast hy.ne'), div_eq_mul_inv, EReal.coe_mul, EReal.coe_inv]

/-- The inverse square root of a positive real. -/
theorem coe_rsqrt {y : ℝ} (hy : 0 < y) : Ideal.rsqrt (y : EReal) = (((Real.sqrt y)⁻¹ : ℝ) : EReal) := by
  show (if y < 0 then (⊥ : EReal) else if y = 0 then ⊤ else ((Real.sqrt y)⁻¹ : ℝ)) = _
  rw [if_neg hy.le.not_gt, if_neg hy.ne']

/-- The square root of a nonnegative real. -/
theorem coe_sqrt {y : ℝ} (hy : 0 ≤ y) : Ideal.sqrt (y : EReal) = ((Real.sqrt y : ℝ) : EReal) := by
  show (if y < 0 then (⊥ : EReal) else (Real.sqrt y : EReal)) = _
  rw [if_neg hy.not_gt]

/-- The pattern of minus infinity. -/
theorem bot_bits : Ideal.ofBits .f32 0xFF800000#32 = (⊥ : EReal) := by simp [Ideal.ofBits, Ideal.ieee]

/-- Softmax as both programs compute it: the arguments less their maximum, exponentials, their share of the sum. -/
theorem coe_softmax {ι : Type} [Fintype ι] [Nonempty ι] {v : ι → EReal} {w : ι → ℝ} (h : ∀ i, v i = (w i : EReal)) {z : EReal} (hz : z = ⊥) (i : ι) :
    Ideal.div (Ideal.exp (v i - max z (Finset.univ.fold max z v))) (∑ j, Ideal.exp (v j - max z (Finset.univ.fold max z v)))
      = ((sm w i : ℝ) : EReal) := by
  obtain rfl : v = fun i => (w i : EReal) := funext h
  subst hz
  obtain ⟨μ, hμ⟩ := coe_max w
  rw [hμ, max_eq_right bot_le]
  have e : ∀ j, Ideal.exp ((w j : EReal) - (μ : EReal)) = ((Real.exp (w j - μ) : ℝ) : EReal) := fun j => by rw [← EReal.coe_sub]; rfl
  simp only [e, coe_sum]
  rw [coe_div (Finset.sum_pos (fun _ _ => Real.exp_pos _) Finset.univ_nonempty), sm_shift]

end Cert.Lanes

end
-- ==== Proof.Spec.lean ====
/-
  What both programs compute, as one function of the six arrays: the gated running mean and variance of every batch
  element as reals, and the normalised, scaled and shifted signal.
-/
module

public import proofs.«01_k».proof.Proof.Lanes

@[expose] public section

noncomputable section

namespace Cert.Spec

open Idealize.ShloMosaic Cert.Lanes Cert.Recur

/-- The arrays' shapes: signal, gate, a row of weights, a scale, a shift. -/
abbrev SX : Shape := ⟨3, ![8, 512, 8192]⟩
@[inherit_doc SX] abbrev SG : Shape := ⟨3, ![8, 1, 8192]⟩
@[inherit_doc SX] abbrev SW : Shape := ⟨3, ![1, 512, 1]⟩
@[inherit_doc SX] abbrev SO : Shape := ⟨3, ![512, 1, 1]⟩
@[inherit_doc SX] abbrev SB : Shape := ⟨1, ![512]⟩

section
variable (X : FVec Ideal SX .f32) (G : FVec Ideal SG .f32) (WA WB : FVec Ideal SW .f32) (WO : FVec Ideal SO .f32) (BO : FVec Ideal SB .f32)

/-- The signal of batch element `b`, channel `i`, at step `t`. -/
def sig (b : Fin 8) (i : Fin 512) (t : ℕ) : ℝ := if h : t < 8192 then EReal.toReal (X (ix3 b i ⟨t, h⟩)) else 0
/-- Its gate scaled by the momentum. -/
def gate (b : Fin 8) (t : ℕ) : ℝ := if h : t < 8192 then EReal.toReal (G (ix3 b 0 ⟨t, h⟩) * Ideal.ofBits .f32 0x3D4CCCCD#32 : EReal) else 0
/-- A row of weights. -/
def wt (W : FVec Ideal SW .f32) (i : Fin 512) : ℝ := EReal.toReal (W (ix3 0 i 0))

/-- The running mean. -/
def μ (b : Fin 8) (t : ℕ) : ℝ := mean (sm (wt WA)) (gate G b) (sig X b) t
/-- The running variance. -/
def σ (b : Fin 8) (t : ℕ) : ℝ := var (sm (wt WB)) (gate G b) (sig X b) (μ X G WA b) t

/-- The result at one place. -/
def outAt (b : Fin 8) (i : Fin 512) (t : ℕ) : EReal :=
  (((sig X b i t - μ X G WA b t) / Real.sqrt (σ X G WA WB b t + ε) : ℝ) : EReal) * WO (ix3 i 0 0) + BO (ix1 i)

/-- The result array. -/
def out : FVec Ideal SX .f32 := fun j => outAt X G WA WB WO BO (j 0) (j 1) (j 2).val

/-- The inputs the claim is about: signal and weights are reals, the scaled gate lies between zero and one. -/
structure Good : Prop where
  signal : ∀ (b : Fin 8) (i : Fin 512) (t : Fin 8192), X (ix3 b i t) = ((sig X b i t : ℝ) : EReal)
  gate : ∀ (b : Fin 8) (t : Fin 8192), (G (ix3 b 0 t) * Ideal.ofBits .f32 0x3D4CCCCD#32 : EReal) = ((Spec.gate G b t : ℝ) : EReal)
  gate0 : ∀ (b : Fin 8) (t : ℕ), 0 ≤ Spec.gate G b t
  gate1 : ∀ (b : Fin 8) (t : ℕ), Spec.gate G b t ≤ 1
  meanRow : ∀ i : Fin 512, WA (ix3 0 i 0) = ((wt WA i : ℝ) : EReal)
  varRow : ∀ i : Fin 512, WB (ix3 0 i 0) = ((wt WB i : ℝ) : EReal)

end

/-- The variance is nonnegative. -/
theorem σ_nonneg {X : FVec Ideal SX .f32} {G : FVec Ideal SG .f32} {WA WB : FVec Ideal SW .f32} (h : Good X G WA WB) (b : Fin 8) (t : ℕ) :
    0 ≤ σ X G WA WB b t :=
  var_nonneg _ (sm_sum _) (sm_nonneg _) _ (h.gate0 b) (h.gate1 b) _ _ t

end Cert.Spec

end
-- ==== Proof.Inputs.lean ====
/-
  What the precondition says of the arguments: signal and weights are reals, and the gate, scaled by the momentum,
  lies between zero and one.
-/
module

public import proofs.«01_k».proof.Pre_gates_between_zero_and_one
public import proofs.«01_k».proof.Proof.Spec
public import Idealize.ShloMosaic.Lib.ReduceAll
public import Idealize.ShloMosaic.Lib.Affine
public import Idealize.ShloMosaic.Lib.Pointwise

@[expose] public section

set_option maxRecDepth 16384

noncomputable section

namespace Cert.Inputs

open Idealize.ShloMosaic Cert.Lanes

variable [Cert.Pre_gates_between_zero_and_one.Facts]
variable (X : FVec Ideal Spec.SX .f32) (G : FVec Ideal Spec.SG .f32) (WA WB : FVec Ideal Spec.SW .f32) (WO : FVec Ideal Spec.SO .f32) (BO : FVec Ideal Spec.SB .f32)

/-- The word of positive infinity reads as the largest extended real. -/
theorem top_word : Ideal.ofBits .f32 0x7F800000#32 = (⊤ : EReal) := by
  simp [Ideal.ofBits, Ideal.ieee]

/-- The word of zero. -/
theorem zero_word : Ideal.ofBits .f32 0#32 = (0 : EReal) := by
  pointwise

/-- The word of one. -/
theorem one_word : Ideal.ofBits .f32 0x3F800000#32 = (1 : EReal) := by
  pointwise

/-- A passed test of an absolute value against infinity. -/
theorem below (x : EReal) (h : Ideal.cmp .olt (max x (-x)) (Ideal.ofBits .f32 0x7F800000#32) = 1) : max x (-x) < ⊤ :=
  top_word ▸ (Ideal.cmp_olt_eq_one _ _).1 h

/-- A number between zero and one is a real. -/
theorem real_of_unit {x : EReal} (h0 : 0 ≤ x) (h1 : x ≤ 1) : ((x.toReal : ℝ) : EReal) = x :=
  EReal.coe_toReal (fun e => absurd (e ▸ h1) (by decide)) (fun e => absurd (e ▸ h0) (by decide))

/-- A number whose absolute value is below infinity is a real. -/
theorem real_of_abs {x : EReal} (h : max x (-x) < ⊤) : ((x.toReal : ℝ) : EReal) = x := by
  refine EReal.coe_toReal (fun e => ?_) (fun e => ?_) <;> subst e <;> simp at h

/-- The precondition's tests, one after the other. -/
theorem tests (h : Cert.Pre_gates_between_zero_and_one.fn (F := Ideal) X G WA WB WO BO = fun _ => 1#1) :
    (∀ i, max (X i : EReal) (-(X i : EReal)) < ⊤) ∧ (∀ i, max (WA i : EReal) (-(WA i : EReal)) < ⊤) ∧ (∀ i, max (WB i : EReal) (-(WB i : EReal)) < ⊤) ∧
      (∀ i, (0 : EReal) ≤ (G i : EReal) * Ideal.ofBits .f32 0x3D4CCCCD#32) ∧ (∀ i, (G i : EReal) * Ideal.ofBits .f32 0x3D4CCCCD#32 ≤ 1) := by
  have pre := congrFun h ix0
  haveI : Subsingleton (Cert.Pre_gates_between_zero_and_one.S_).Idx := ⟨fun a b => by funext d; exact d.elim0⟩
  dsimp only [Cert.Pre_gates_between_zero_and_one.fn, Cert.Pre_gates_between_zero_and_one.fn_part1, andi] at pre
  simp only [IntOp.andi_eq_one] at pre
  obtain ⟨⟨⟨⟨p1, p2⟩, p3⟩, p4⟩, p5⟩ := pre
  refine ⟨fun i => ?_, fun i => ?_, fun i => ?_, fun i => ?_, fun i => ?_⟩
  · exact below _ (Host.reduce_andi_all _ _ _ _ _ p1 i)
  · exact below _ (Host.reduce_andi_all _ _ _ _ _ p2 i)
  · exact below _ (Host.reduce_andi_all _ _ _ _ _ p3 i)
  · have q : Ideal.cmp .oge ((G i : EReal) * Ideal.ofBits .f32 0x3D4CCCCD#32) (Ideal.ofBits .f32 0#32) = 1 := Host.reduce_andi_all _ _ _ _ _ p4 i
    exact zero_word ▸ (Ideal.cmp_oge_eq_one _ _).1 q
  · have q : Ideal.cmp .ole ((G i : EReal) * Ideal.ofBits .f32 0x3D4CCCCD#32) (Ideal.ofBits .f32 0x3F800000#32) = 1 := Host.reduce_andi_all _ _ _ _ _ p5 i
    exact one_word ▸ (Ideal.cmp_ole_eq_one _ _).1 q

/-- The inputs that pass are those the value theorems are about. -/
theorem good (h : Cert.Pre_gates_between_zero_and_one.fn (F := Ideal) X G WA WB WO BO = fun _ => 1#1) : Spec.Good X G WA WB := by
  obtain ⟨hx, ha, hb, h0, h1⟩ := tests X G WA WB WO BO h
  have hg : ∀ (b : Fin 8) (t : Fin 8192), (G (ix3 b 0 t) * Ideal.ofBits .f32 0x3D4CCCCD#32 : EReal) = ((Spec.gate G b t : ℝ) : EReal) := by
    intro b t
    unfold Spec.gate
    rw [dif_pos t.isLt]
    exact (real_of_unit (h0 _) (h1 _)).symm
  refine ⟨fun b i t => ?_, hg, fun b t => ?_, fun b t => ?_, fun i => (real_of_abs (ha _)).symm, fun i => (real_of_abs (hb _)).symm⟩
  · unfold Spec.sig
    rw [dif_pos t.isLt]
    exact (real_of_abs (hx _)).symm
  · by_cases ht : t < 8192
    · have e := h0 (ix3 b 0 ⟨t, ht⟩)
      erw [hg b ⟨t, ht⟩] at e
      exact_mod_cast e
    · unfold Spec.gate
      rw [dif_neg ht]
  · by_cases ht : t < 8192
    · have e := h1 (ix3 b 0 ⟨t, ht⟩)
      erw [hg b ⟨t, ht⟩] at e
      exact_mod_cast e
    · unfold Spec.gate
      rw [dif_neg ht]
      exact zero_le_one

end Cert.Inputs

end
-- ==== Proof.Tile.lean ====
/-
  One tile of 4096 time steps: what the kernel's body computes from its blocks and the state it is handed, as reals.
-/
module

public import proofs.«01_k».proof.Proof.Lanes
public import proofs.«01_k».proof.Proof.Gen.KernelIdeal.Skeleton

@[expose] public section

set_option maxRecDepth 16384

noncomputable section

namespace Cert.Tile

open Cert.KernelIdeal Cert.KernelIdeal.Gen Idealize.ShloMosaic Cert.Lanes Cert.Recur

/-! ## The values of the body, from its blocks and the state `c0`, `c1` it is handed -/

section Values
variable (x0 : Vec Ideal S1x512x4096 .f32) (x1 : Vec Ideal S1x1x4096 .f32) (x2 : Vec Ideal S2x512 .f32) (c0 c1 : Ideal .f32)

/-- The coefficients. -/
abbrev vA0 : FVec Ideal S1x4096 .f32 := k0_pay4 x1
/-- Their products over 2, 4, 8, 16, 32, 64 steps. -/
abbrev vA1 : FVec Ideal S1x4096 .f32 := k0_pay12 (vA0 x1) k0_pay10 (k0_pay11 x1)
@[inherit_doc vA1] abbrev vA2 : FVec Ideal S1x4096 .f32 := k0_pay13 (vA0 x1) k0_pay10 (k0_pay11 x1)
@[inherit_doc vA1] abbrev vA3 : FVec Ideal S1x4096 .f32 := k0_pay14 (vA0 x1) k0_pay10 (k0_pay11 x1)
@[inherit_doc vA1] abbrev vA4 : FVec Ideal S1x4096 .f32 := k0_pay15 (vA0 x1) k0_pay10 (k0_pay11 x1)
@[inherit_doc vA1] abbrev vA5 : FVec Ideal S1x4096 .f32 := k0_pay16 (vA0 x1) k0_pay10 (k0_pay11 x1)
@[inherit_doc vA1] abbrev vA6 : FVec Ideal S1x4096 .f32 := k0_pay18 (vA0 x1) k0_pay10 (k0_pay11 x1)
/-- Their products over 128, …, 4096 steps. -/
abbrev vA7 : FVec Ideal S1x4096 .f32 := k0_pay21 (vA6 x1)
@[inherit_doc vA7] abbrev vA8 : FVec Ideal S1x4096 .f32 := k0_pay22 (vA6 x1)
@[inherit_doc vA7] abbrev vA9 : FVec Ideal S1x4096 .f32 := k0_pay23 (vA6 x1)
@[inherit_doc vA7] abbrev vA10 : FVec Ideal S1x4096 .f32 := k0_pay24 (vA6 x1)
@[inherit_doc vA7] abbrev vA11 : FVec Ideal S1x4096 .f32 := k0_pay25 (vA6 x1)
@[inherit_doc vA7] abbrev vA12 : FVec Ideal S1x4096 .f32 := k0_pay28 (vA11 x1) k0_pay27
/-- The mean's windowed sums over 2, 64 and 4096 steps. -/
abbrev vB1 : FVec Ideal S1x4096 .f32 := k0_pay9 x0 x1 x2
@[inherit_doc vB1] abbrev vB6 : FVec Ideal S1x4096 .f32 := k0_pay17 (vA0 x1) (vB1 x0 x1 x2) k0_pay10 (k0_pay11 x1)
@[inherit_doc vB1] abbrev vB12 : FVec Ideal S1x4096 .f32 := k0_pay26 (vB6 x0 x1 x2) (vA6 x1) k0_pay19 (k0_pay20 (vA0 x1) (vB1 x0 x1 x2) k0_pay10 (k0_pay11 x1))
/-- The mean. -/
abbrev vM : FVec Ideal S1x4096 .f32 := k0_pay29 (vA11 x1) (vB12 x0 x1 x2) k0_pay27 c0
/-- The variance's windowed sums over 128 steps. -/
abbrev vW7 : FVec Ideal S1x4096 .f32 :=
  k0_pay30 (k0_pay3 x1) (vA0 x1) (k0_pay7 x0 x2) (k0_pay8 x0 x2) (vA1 x1) (vA2 x1) (vA3 x1) (vA4 x1) (vA5 x1) (vA6 x1) (vA11 x1) (vB12 x0 x1 x2) k0_pay27 c0
/-- The variance. -/
abbrev vV : FVec Ideal S1x4096 .f32 := k0_pay32 (vA7 x1) (vA8 x1) (vA9 x1) (vA10 x1) (vA11 x1) (vA12 x1) (vW7 x0 x1 x2 c0) k0_pay31 c1
/-- The mean's last state. -/
abbrev lastM : Ideal .f32 := k0_pay33 (vM x0 x1 x2 c0)
/-- The variance's last state. -/
abbrev lastV : Ideal .f32 := k0_pay34 (vA7 x1) (vA8 x1) (vA9 x1) (vA10 x1) (vA11 x1) (vA12 x1) (vW7 x0 x1 x2 c0) k0_pay31 c1
/-- The block the body writes. -/
abbrev vOut (x3 x4 : Vec Ideal S512x1 .f32) : FVec Ideal S1x512x4096 .f32 :=
  k0_pay1 (k0_pay35 (k0_pay2 x0) (vA7 x1) (vA8 x1) (vA9 x1) (vA10 x1) (vA11 x1) (vA12 x1) (vM x0 x1 x2 c0) (vW7 x0 x1 x2 c0) k0_pay31 c1 x3) x4

end Values

/-! ## What they hold -/

section Holds
variable {x0 : Vec Ideal S1x512x4096 .f32} {x1 : Vec Ideal S1x1x4096 .f32} {x2 : Vec Ideal S2x512 .f32} {c0 c1 : Ideal .f32}
variable {x : Fin 512 → ℕ → ℝ} {gm : ℕ → ℝ} {wa wb : Fin 512 → ℝ} {m0 v0 : ℝ}

/-- The blocks hold reals: the signal, the gate scaled by the momentum, the two rows of weights. -/
structure Blocks (x0 : Vec Ideal S1x512x4096 .f32) (x1 : Vec Ideal S1x1x4096 .f32) (x2 : Vec Ideal S2x512 .f32)
    (x : Fin 512 → ℕ → ℝ) (gm : ℕ → ℝ) (wa wb : Fin 512 → ℝ) : Prop where
  signal : ∀ (c : Fin 512) (t : Fin 4096), x0 (ix3 0 c t) = ((x c t : ℝ) : EReal)
  gate : ∀ t : Fin 4096, (x1 (ix3 0 0 t) * Ideal.ofBits .f32 0x3D4CCCCD#32 : EReal) = ((gm t : ℝ) : EReal)
  meanRow : ∀ c : Fin 512, x2 (ix2 0 c) = ((wa c : ℝ) : EReal)
  varRow : ∀ c : Fin 512, x2 (ix2 1 c) = ((wb c : ℝ) : EReal)

/-- A row of the softmaxed weights. -/
theorem soft_row {r : Fin 2} {w : Fin 512 → ℝ} (h : ∀ c : Fin 512, x2 (ix2 r c) = ((w c : ℝ) : EReal)) (c : Fin 512) :
    k0_pay5 (F := Ideal) x2 (ix2 r c) = ((sm w c : ℝ) : EReal) := by
  pointwise [k0_pay5]
  exact coe_softmax h bot_bits c

/-- A softmaxed row against the signal. -/
theorem dot_row (hx : ∀ (c : Fin 512) (t : Fin 4096), x0 (ix3 0 c t) = ((x c t : ℝ) : EReal)) {r : Fin 2} {w : Fin 512 → ℝ}
    (h : ∀ c : Fin 512, x2 (ix2 r c) = ((w c : ℝ) : EReal)) (t : Fin 4096) :
    k0_pay6 (F := Ideal) x0 x2 (ix2 r t) = ((∑ c, sm w c * x c t : ℝ) : EReal) := by
  pointwise [k0_pay6, k0_pay2]
  simp only [soft_row h, hx, ← EReal.coe_mul, coe_sum]

variable (H : Blocks x0 x1 x2 x gm wa wb)
include H

/-- The scaled gate. -/
theorem gate_holds : Holds (k0_pay3 (F := Ideal) x1) gm := fun t => by
  pointwise [k0_pay3]
  exact H.gate t

/-- The coefficients are one minus the scaled gate. -/
theorem a0 : Holds (vA0 x1) (fun t => 1 - gm t) := (Holds.const one_bits).sub (gate_holds H)

/-- The variance's weights against the squared signal. -/
theorem sq_row : Holds (k0_pay7 (F := Ideal) x0 x2) (fun t => ∑ c, sm wb c * (x c t * x c t)) := fun t => by
  pointwise [k0_pay7, k0_pay2]
  simp only [soft_row H.varRow, H.signal, ← EReal.coe_mul, coe_sum]

/-- The variance's weights against the signal. -/
theorem rb1 : Holds (k0_pay8 (F := Ideal) x0 x2) (fun t => ∑ c, sm wb c * x c t) := fun t => by
  pointwise [k0_pay8]
  exact dot_row H.signal H.varRow t

/-- The doubled products, level by level: at level `k` a lane holds the product of the last `2 ^ k` coefficients. -/
theorem a1 : Holds (vA1 x1) (lvA (fun t => 1 - gm t) 1) :=
  (a0 H).stepA one_bits slices_S1x4096_o0_0_S1x4095 concatenates_S1x1_S1x4095_S1x4096_d1
@[inherit_doc a1] theorem a2 : Holds (vA2 x1) (lvA (fun t => 1 - gm t) 2) := (a1 H).stepA one_bits _ _
@[inherit_doc a1] theorem a3 : Holds (vA3 x1) (lvA (fun t => 1 - gm t) 3) := (a2 H).stepA one_bits _ _
@[inherit_doc a1] theorem a4 : Holds (vA4 x1) (lvA (fun t => 1 - gm t) 4) := (a3 H).stepA one_bits _ _
@[inherit_doc a1] theorem a5 : Holds (vA5 x1) (lvA (fun t => 1 - gm t) 5) := (a4 H).stepA one_bits _ _
@[inherit_doc a1] theorem a6 : Holds (vA6 x1) (lvA (fun t => 1 - gm t) 6) := (a5 H).stepA one_bits _ _
@[inherit_doc a1] theorem a7 : Holds (vA7 x1) (lvA (fun t => 1 - gm t) 7) := (a6 H).stepA one_bits _ _
@[inherit_doc a1] theorem a8 : Holds (vA8 x1) (lvA (fun t => 1 - gm t) 8) := (a7 H).stepA one_bits _ _
@[inherit_doc a1] theorem a9 : Holds (vA9 x1) (lvA (fun t => 1 - gm t) 9) := (a8 H).stepA one_bits _ _
@[inherit_doc a1] theorem a10 : Holds (vA10 x1) (lvA (fun t => 1 - gm t) 10) := (a9 H).stepA one_bits _ _
@[inherit_doc a1] theorem a11 : Holds (vA11 x1) (lvA (fun t => 1 - gm t) 11) := (a10 H).stepA one_bits _ _
@[inherit_doc a1] theorem a12 : Holds (vA12 x1) (lvA (fun t => 1 - gm t) 12) := (a11 H).stepA one_bits _ _

/-- What the mean's recurrence is fed. -/
abbrev feedM (wa : Fin 512 → ℝ) (gm : ℕ → ℝ) (x : Fin 512 → ℕ → ℝ) (t : ℕ) : ℝ := gm t * ∑ c, sm wa c * x c t

/-- The mean's weights against the signal. -/
theorem ra : Holds (extractStridedSlice S1x4096 ![0, 0] (k0_pay6 (F := Ideal) x0 x2) slices_S2x4096_o0_0_S1x4096) (fun t => ∑ c, sm wa c * x c t) := fun t => by
  pointwise
  exact dot_row H.signal H.meanRow t

/-- The mean's windowed sums at the first level, -/
theorem b1 : Holds (vB1 x0 x1 x2) (lvB (fun t => 1 - gm t) (feedM wa gm x) 1) :=
  Holds.stepB zero_bits (a0 H) ((gate_holds H).mul (ra H)) slices_S1x4096_o0_0_S1x4095 concatenates_S1x1_S1x4095_S1x4096_d1

/-- at the sixth, -/
theorem b6 : Holds (vB6 x0 x1 x2) (lvB (fun t => 1 - gm t) (feedM wa gm x) 6) :=
  Holds.stepB zero_bits (a5 H) (Holds.stepB zero_bits (a4 H) (Holds.stepB zero_bits (a3 H) (Holds.stepB zero_bits (a2 H)
    (Holds.stepB zero_bits (a1 H) (b1 H) _ _) _ _) _ _) _ _) _ _

/-- and at the twelfth, where the window is the whole tile. -/
theorem b12 : Holds (vB12 x0 x1 x2) (lvB (fun t => 1 - gm t) (feedM wa gm x) 12) :=
  Holds.stepB zero_bits (a11 H) (Holds.stepB zero_bits (a10 H) (Holds.stepB zero_bits (a9 H) (Holds.stepB zero_bits (a8 H)
    (Holds.stepB zero_bits (a7 H) (Holds.stepB zero_bits (a6 H) (b6 H) slices_S1x4096_o0_0_S1x4032 _) _ _) _ _) _ _) _ _) _ _

/-- The tile's mean, from the state `m0`. -/
abbrev μ (wa : Fin 512 → ℝ) (gm : ℕ → ℝ) (x : Fin 512 → ℕ → ℝ) (m0 : ℝ) (t : ℕ) : ℝ :=
  st m0 (fun s => 1 - gm s) (feedM wa gm x) (t + 1)

/-- With the state carried in, the kernel's mean is the recurrence's. -/
theorem mean_holds (hm : c0 = (m0 : EReal)) : Holds (vM x0 x1 x2 c0) (μ wa gm x m0) :=
  ((b12 H).add ((a12 H).mul (Holds.const hm))).congr fun t ht => tile_state m0 _ _ t ht

/-- What the variance's recurrence is fed. -/
abbrev feedV (wa wb : Fin 512 → ℝ) (gm : ℕ → ℝ) (x : Fin 512 → ℕ → ℝ) (m0 : ℝ) (t : ℕ) : ℝ :=
  gm t * ((∑ c, sm wb c * (x c t * x c t)) - 2 * μ wa gm x m0 t * (∑ c, sm wb c * x c t) + μ wa gm x m0 t * μ wa gm x m0 t)

/-- The variance's feed as the kernel writes it: the square expanded. -/
theorem w0 (hm : c0 = (m0 : EReal)) :
    Holds (mulf (k0_pay3 x1) (addf (subf (k0_pay7 (F := Ideal) x0 x2)
      (mulf (mulf (broadcast S1x4096 (Scalar.ofBits .f32 0x40000000#32)) (vM x0 x1 x2 c0)) (k0_pay8 (F := Ideal) x0 x2)))
      (mulf (vM x0 x1 x2 c0) (vM x0 x1 x2 c0)))) (feedV wa wb gm x m0) :=
  (gate_holds H).mul (((sq_row H).sub (((Holds.const two_bits).mul (mean_holds H hm)).mul (rb1 H))).add ((mean_holds H hm).mul (mean_holds H hm)))

/-- The variance's windowed sums at the seventh level. -/
theorem w7 (hm : c0 = (m0 : EReal)) : Holds (vW7 x0 x1 x2 c0) (lvB (fun t => 1 - gm t) (feedV wa wb gm x m0) 7) :=
  Holds.stepB zero_bits (a6 H) (Holds.stepB zero_bits (a5 H) (Holds.stepB zero_bits (a4 H) (Holds.stepB zero_bits (a3 H)
    (Holds.stepB zero_bits (a2 H) (Holds.stepB zero_bits (a1 H) (Holds.stepB zero_bits (a0 H) (w0 H hm)
      slices_S1x4096_o0_0_S1x4095 concatenates_S1x1_S1x4095_S1x4096_d1) _ _) _ _) _ _) _ _) _ _) _ _

/-- The tile's variance, from the states `m0`, `v0`. -/
abbrev ν (wa wb : Fin 512 → ℝ) (gm : ℕ → ℝ) (x : Fin 512 → ℕ → ℝ) (m0 v0 : ℝ) (t : ℕ) : ℝ :=
  st v0 (fun s => 1 - gm s) (feedV wa wb gm x m0) (t + 1)

/-- With the state carried in, the kernel's variance is the recurrence's. -/
theorem w12 (hm : c0 = (m0 : EReal)) (hv : c1 = (v0 : EReal)) : Holds (vV x0 x1 x2 c0 c1) (ν wa wb gm x m0 v0) :=
  (Holds.add (Holds.stepB zero_bits (a11 H) (Holds.stepB zero_bits (a10 H) (Holds.stepB zero_bits (a9 H) (Holds.stepB zero_bits (a8 H)
    (Holds.stepB zero_bits (a7 H) (w7 H hm) _ _) _ _) _ _) _ _) _ _) ((a12 H).mul (Holds.const hv))).congr fun t ht => tile_state v0 _ _ t ht

/-- The mean handed to the next tile is that of the last step. -/
theorem lastM_eq (hm : c0 = (m0 : EReal)) : lastM x0 x1 x2 c0 = ((μ wa gm x m0 4095 : ℝ) : EReal) := by
  unfold lastM
  pointwise [k0_pay33]
  exact mean_holds H hm 4095

/-- The variance handed to the next tile is that of the last step. -/
theorem lastV_eq (hm : c0 = (m0 : EReal)) (hv : c1 = (v0 : EReal)) : lastV x0 x1 x2 c0 c1 = ((ν wa wb gm x m0 v0 4095 : ℝ) : EReal) := by
  unfold lastV
  pointwise [k0_pay34]
  exact w12 H hm hv 4095

/-- The block the body writes, where the variance is nonnegative. -/
theorem out_eq (hm : c0 = (m0 : EReal)) (hv : c1 = (v0 : EReal)) (x3 x4 : Vec Ideal S512x1 .f32) (z : Fin 1) (c : Fin 512) (t : Fin 4096)
    (hpos : 0 ≤ ν wa wb gm x m0 v0 t) :
    vOut x0 x1 x2 c0 c1 x3 x4 (ix3 z c t)
      = ((((x c t - μ wa gm x m0 t) / Real.sqrt (ν wa wb gm x m0 v0 t + ε) : ℝ) : EReal) * x3 (ix2 c 0) + x4 (ix2 c 0) : EReal) := by
  unfold vOut
  pointwise [k0_pay1, k0_pay35, k0_pay2]
  have hV : (k0_pay32 (vA7 x1) (vA8 x1) (vA9 x1) (vA10 x1) (vA11 x1) (vA12 x1) (vW7 x0 x1 x2 c0) k0_pay31 c1 (ix2 0 t) : EReal)
      = ((ν wa wb gm x m0 v0 t : ℝ) : EReal) := w12 H hm hv t
  rw [H.signal, mean_holds H hm t, hV]
  rw [show Ideal.ofBits .f32 0x358637BD#32 = (ε : EReal) from ε_bits]
  rw [← EReal.coe_add, coe_rsqrt (add_pos_of_nonneg_of_pos hpos ε_pos), ← EReal.coe_sub, ← EReal.coe_mul, div_eq_mul_inv]

end Holds

end Cert.Tile

end
-- ==== Proof.KernelValue.lean ====
/-
  The kernel's result array: at each grid point the tile's computation on the blocks the windows hand it, over the two
  tiles of a batch element.
-/
module

public import proofs.«01_k».proof.Proof.Tile
public import proofs.«01_k».proof.Proof.Spec
public import proofs.«01_k».proof.Proof.Gen.KernelIdeal.Value
public import Idealize.ShloMosaic.Lib.Pipeline.ValueKit

@[expose] public section

set_option maxRecDepth 16384

noncomputable section

namespace Cert.KernelValue

open Cert.KernelIdeal Cert.KernelIdeal.Gen Idealize.ShloMosaic Idealize.ShloMosaic.TcCoe Idealize.SL.Sem
open Cert.Lanes Cert.Recur

variable (m : (ℓ : Loc nD τ sig) → Buf (Elt Ideal) ℓ)

/-- The argument arrays. -/
abbrev X (c : Dev nD) : FVec Ideal Spec.SX .f32 := m ((c : Thread nD τ).loc main_arg0)
@[inherit_doc X] abbrev G (c : Dev nD) : FVec Ideal Spec.SG .f32 := m ((c : Thread nD τ).loc main_arg1)
@[inherit_doc X] abbrev WA (c : Dev nD) : FVec Ideal Spec.SW .f32 := m ((c : Thread nD τ).loc main_arg2)
@[inherit_doc X] abbrev WB (c : Dev nD) : FVec Ideal Spec.SW .f32 := m ((c : Thread nD τ).loc main_arg3)
@[inherit_doc X] abbrev WO (c : Dev nD) : FVec Ideal Spec.SO .f32 := m ((c : Thread nD τ).loc main_arg4)
@[inherit_doc X] abbrev BO (c : Dev nD) : FVec Ideal Spec.SB .f32 := m ((c : Thread nD τ).loc main_arg5)

/-- The windows' block indices: point `t` is tile `t % 2` of batch element `t / 2`. -/
theorem idx : ∀ t : Fin cfg0.N, win0_0.index t = ![t.val / 2, 0, t.val % 2] ∧ win0_1.index t = ![t.val / 2, 0, t.val % 2] ∧ win0_2.index t = ![0, 0]
    ∧ win0_3.index t = ![0, 0] ∧ win0_4.index t = ![0, 0] ∧ win0_5.index t = ![t.val / 2, 0, t.val % 2] :=
  (by decide +kernel : ∀ t : Fin grid0.N, _)

/-! ## The blocks at a point -/

/-- The signal block at point `t`, lane by lane: batch element `t / 2`, time from `4096 · (t % 2)` on. -/
theorem signal_block (c : Dev nD) (t : Fin cfg0.N) (k : Fin 512) (s : Fin 4096) (b : Fin 8) (u : Fin 8192) (hb : b.val = t.val / 2)
    (hu : u.val = t.val % 2 * 4096 + s.val) : iblk m c 0 t (ix3 0 k s) = X m c (ix3 b k u) := by
  blk_point [iblk, V, idx t]

/-- The gate block at point `t`: the same batch element's and the same stretch of time's. -/
theorem gate_block (c : Dev nD) (t : Fin cfg0.N) (s : Fin 4096) (b : Fin 8) (u : Fin 8192) (hb : b.val = t.val / 2)
    (hu : u.val = t.val % 2 * 4096 + s.val) : iblk m c 1 t (ix3 0 0 s) = G m c (ix3 b 0 u) := by
  blk_point [iblk, V, idx t]

/-- The two rows of weights as the region is handed them: one above the other. -/
theorem V_rows (c : Dev nD) : V m c main_call0_v2 = concatenate S2x512 0 [⟨S1x512, shapeCast S1x512 (WA m c) shapeCasts_S1x512x1_S1x512⟩,
    ⟨S1x512, shapeCast S1x512 (WB m c) shapeCasts_S1x512x1_S1x512⟩] concatenates_S1x512_S1x512_S2x512_d0 := by
  entry_read
  rfl

/-- The block of weights is the whole stacked array, at every point. -/
theorem rows_block (c : Dev nD) (t : Fin cfg0.N) (r : Fin 2) (k : Fin 512) :
    iblk m c 2 t (ix2 r k) = (V m c main_call0_v2 : Vec Ideal S2x512 .f32) (ix2 r k) := by
  unfold iblk
  blk_ext! [idx t]

/-- Its first row is the mean's weights. -/
theorem meanRow_block (c : Dev nD) (t : Fin cfg0.N) (k : Fin 512) : iblk m c 2 t (ix2 0 k) = WA m c (ix3 0 k 0) := by
  rw [rows_block, V_rows]
  pointwise

/-- Its second row is the variance's weights. -/
theorem varRow_block (c : Dev nD) (t : Fin cfg0.N) (k : Fin 512) : iblk m c 2 t (ix2 1 k) = WB m c (ix3 0 k 0) := by
  rw [rows_block, V_rows]
  pointwise

/-- The scale block is the whole scale. -/
theorem scale_block (c : Dev nD) (t : Fin cfg0.N) (k : Fin 512) : iblk m c 3 t (ix2 k 0) = WO m c (ix3 k 0 0) := by
  blk_point [iblk, V, idx t]

/-- The shift block is the whole shift. -/
theorem shift_block (c : Dev nD) (t : Fin cfg0.N) (k : Fin 512) : iblk m c 4 t (ix2 k 0) = BO m c (ix1 k) := by
  blk_point [iblk, V, idx t]

/-- The signal's and the gate's part that tile `j` of batch element `b` sees. -/
abbrev sigT (c : Dev nD) (b : Fin 8) (j : ℕ) (i : Fin 512) (s : ℕ) : ℝ := Spec.sig (X m c) b i (j * 4096 + s)
@[inherit_doc sigT] abbrev gateT (c : Dev nD) (b : Fin 8) (j : ℕ) (s : ℕ) : ℝ := Spec.gate (G m c) b (j * 4096 + s)

/-- There are sixteen points. -/
theorem lt16 (t : Fin cfg0.N) : t.val < 16 := lt_of_lt_of_eq t.isLt N_0

/-- The blocks at a point hold the reals of its tile. -/
theorem blocks (c : Dev nD) (h : Spec.Good (X m c) (G m c) (WA m c) (WB m c)) (t : Fin cfg0.N) (b : Fin 8) (hb : b.val = t.val / 2) :
    Tile.Blocks (iblk m c 0 t) (iblk m c 1 t) (iblk m c 2 t) (sigT m c b (t.val % 2)) (gateT m c b (t.val % 2)) (Spec.wt (WA m c)) (Spec.wt (WB m c)) where
  signal i s := by
    have hs := s.isLt
    rw [signal_block m c t i s b ⟨t.val % 2 * 4096 + s.val, by omega⟩ hb rfl]
    exact h.signal b i _
  gate s := by
    have hs := s.isLt
    rw [gate_block m c t s b ⟨t.val % 2 * 4096 + s.val, by omega⟩ hb rfl]
    exact h.gate b _
  meanRow i := (meanRow_block m c t i).trans (h.meanRow i)
  varRow i := (varRow_block m c t i).trans (h.varRow i)

/-! ## The states handed on -/

/-- The state a tile is handed: zero for the first, the state after step 4095 for the second. -/
def m0 (c : Dev nD) (b : Fin 8) (j : ℕ) : ℝ := if j = 0 then 0 else Spec.μ (X m c) (G m c) (WA m c) b 4095
@[inherit_doc m0] def v0 (c : Dev nD) (b : Fin 8) (j : ℕ) : ℝ := if j = 0 then 0 else Spec.σ (X m c) (G m c) (WA m c) (WB m c) b 4095

/-- The tile's mean is the running mean. -/
theorem mean_tile (c : Dev nD) (b : Fin 8) (j : ℕ) (hj : j < 2) (s : ℕ) :
    Tile.μ (Spec.wt (WA m c)) (gateT m c b j) (sigT m c b j) (m0 m c b j) s = Spec.μ (X m c) (G m c) (WA m c) b (j * 4096 + s) := by
  interval_cases j
  · simp only [m0, if_true, Tile.μ, Tile.feedM, Spec.μ, mean, sigT, gateT, Nat.zero_mul, Nat.zero_add]
    exact st_congr (fun _ _ => rfl) fun t _ => by simp only [Tile.feedM, sigT, gateT, Nat.zero_mul, Nat.zero_add]
  · simp only [m0, one_ne_zero, if_false, Tile.μ, Tile.feedM, Spec.μ, mean, sigT, gateT, Nat.one_mul]
    rw [show 4096 + s + 1 = 4096 + (s + 1) by omega, st_add _ _ _ 4096 (s + 1)]

/-- The tile's variance is the running variance. -/
theorem var_tile (c : Dev nD) (b : Fin 8) (j : ℕ) (hj : j < 2) (s : ℕ) :
    Tile.ν (Spec.wt (WA m c)) (Spec.wt (WB m c)) (gateT m c b j) (sigT m c b j) (m0 m c b j) (v0 m c b j) s
      = Spec.σ (X m c) (G m c) (WA m c) (WB m c) b (j * 4096 + s) := by
  unfold Tile.ν Tile.feedV
  simp only [mean_tile m c b j hj]
  interval_cases j
  · simp only [v0, if_true, Spec.σ, var, sigT, gateT, Nat.zero_mul, Nat.zero_add]
  · simp only [v0, one_ne_zero, if_false, Spec.σ, var, sigT, gateT, Nat.one_mul]
    rw [show 4096 + s + 1 = 4096 + (s + 1) by omega, st_add _ _ _ 4096 (s + 1)]

/-- What a tile's block holds, from the states it is handed. -/
theorem tile_out (c : Dev nD) (h : Spec.Good (X m c) (G m c) (WA m c) (WB m c)) (t : Fin cfg0.N) (b : Fin 8) (hb : b.val = t.val / 2)
    {c0 c1 : Ideal .f32} (hm : c0 = (m0 m c b (t.val % 2) : EReal)) (hv : c1 = (v0 m c b (t.val % 2) : EReal)) (z : Fin 1) (i : Fin 512) (s : Fin 4096) :
    Tile.vOut (iblk m c 0 t) (iblk m c 1 t) (iblk m c 2 t) c0 c1 (iblk m c 3 t) (iblk m c 4 t) (ix3 z i s)
      = Spec.outAt (X m c) (G m c) (WA m c) (WB m c) (WO m c) (BO m c) b i (t.val % 2 * 4096 + s.val) := by
  have hj : t.val % 2 < 2 := Nat.mod_lt _ (by decide)
  rw [Tile.out_eq (blocks m c h t b hb) hm hv _ _ z i s (by rw [var_tile m c b _ hj]; exact Spec.σ_nonneg h b _), mean_tile m c b _ hj, var_tile m c b _ hj,
    scale_block, shift_block]
  rfl

/-- The state's second cell, written last, reads what was written; -/
theorem cell1 (w : (Rect.unit (s := S2) ![1] ![1] inb_S2_S1_1).shape.Idx → Ideal .f32) (L : List (View.Piece (Elt Ideal) S2 .f32)) :
    View.canon (⟨Rect.unit ![1] ![1] inb_S2_S1_1, w⟩ :: L) (ix1 1 : S2.Idx) = w (ix1 0) :=
  (congrArg _ (by decide)).trans (View.canon_cons_emb (Val := Elt Ideal) _ w L (ix1 0))

/-- and the first, written before it, what was written there. -/
theorem cell0 (w' : (Rect.unit (s := S2) ![1] ![1] inb_S2_S1_1).shape.Idx → Ideal .f32)
    (w : (Rect.unit (s := S2) ![0] ![1] inb_S2_S1_0).shape.Idx → Ideal .f32) (L : List (View.Piece (Elt Ideal) S2 .f32)) :
    View.canon (⟨Rect.unit ![1] ![1] inb_S2_S1_1, w'⟩ :: ⟨Rect.unit ![0] ![1] inb_S2_S1_0, w⟩ :: L) (ix1 0 : S2.Idx) = w (ix1 0) :=
  (View.canon_cons_of_not_mem (Val := Elt Ideal) _ _
    ((by decide : (ix1 0 : S2.Idx) ∉ (Rect.unit (s := S2) ![1] ![1] inb_S2_S1_1).set))).trans
    ((congrArg _ (by decide)).trans (View.canon_cons_emb (Val := Elt Ideal) _ w L (ix1 0)))

/-- A state carried from the point before reads, at its two cells, what that point left. -/
theorem carried0 (h : (Memref.whole cc0_scratch0).IsWhole) (S : S2.Idx → Ideal .f32) (x : (Rect.unit (s := S2) ![0] ![1] inb_S2_S1_0).shape.Idx) :
    View.ld (View.read (Elt Ideal) (View.whole cc0_scratch0) (h.unread S)) (Rect.unit ![0] ![1] inb_S2_S1_0) x = S (ix1 0) := by
  refine (congrFun (h.read_unread (Val := Elt Ideal) S) _).trans ?_
  refine View.ld_unit_apply_of (Val := Elt Ideal) (e := .f32) S _ _ _ x (ix1 0) fun a => ?_
  have hx : (x 0).val < 1 := (x 0).isLt
  fin_cases a
  have hx' : (x 0).val = 0 := by omega
  exact (congrArg (0 + ·) hx').symm

@[inherit_doc carried0] theorem carried1 (h : (Memref.whole cc0_scratch0).IsWhole) (S : S2.Idx → Ideal .f32)
    (x : (Rect.unit (s := S2) ![1] ![1] inb_S2_S1_1).shape.Idx) :
    View.ld (View.read (Elt Ideal) (View.whole cc0_scratch0) (h.unread S)) (Rect.unit ![1] ![1] inb_S2_S1_1) x = S (ix1 1) := by
  refine (congrFun (h.read_unread (Val := Elt Ideal) S) _).trans ?_
  refine View.ld_unit_apply_of (Val := Elt Ideal) (e := .f32) S _ _ _ x (ix1 1) fun a => ?_
  have hx : (x 0).val < 1 := (x 0).isLt
  fin_cases a
  have hx' : (x 0).val = 0 := by omega
  exact (congrArg (1 + ·) hx').symm

/-- The first tile of a batch element leaves the states after its last step. -/
theorem scratch_first (c : Dev nD) (h : Spec.Good (X m c) (G m c) (WA m c) (WB m c)) (t : Fin cfg0.N) (h0 : t.val % 2 = 0) (b : Fin 8) (hb : b.val = t.val / 2) :
    (outsAt0 m c t.val t.isLt).2 (ix1 0) = ((Spec.μ (X m c) (G m c) (WA m c) b 4095 : ℝ) : EReal)
      ∧ (outsAt0 m c t.val t.isLt).2 (ix1 1) = ((Spec.σ (X m c) (G m c) (WA m c) (WB m c) b 4095 : ℝ) : EReal) := by
  have H := blocks m c h t b hb
  have hm : (FloatOps.ofBits .f32 0x00000000#32 : Ideal .f32) = (m0 m c b (t.val % 2) : EReal) := by rw [h0]; exact zero_bits
  have hv : (FloatOps.ofBits .f32 0x00000000#32 : Ideal .f32) = (v0 m c b (t.val % 2) : EReal) := by rw [h0]; exact zero_bits
  have e0 := Tile.lastM_eq H hm
  have e1 := Tile.lastV_eq H hm hv
  rw [mean_tile m c b _ (Nat.mod_lt _ (by decide)), h0] at e0
  rw [var_tile m c b _ (Nat.mod_lt _ (by decide)), h0] at e1
  rw [outsAt0_A m c t h0]
  constructor
  · frame_out
    exact (cell0 _ _ _).trans e0
  · frame_out
    exact (cell1 _ _).trans e1

/-- The block a point writes back. -/
theorem point (c : Dev nD) (h : Spec.Good (X m c) (G m c) (WA m c) (WB m c)) (t : Fin cfg0.N) (b : Fin 8) (hb : b.val = t.val / 2)
    (z : Fin 1) (i : Fin 512) (s : Fin 4096) :
    (outsAt0 m c t.val t.isLt).1 (ix3 z i s) = Spec.outAt (X m c) (G m c) (WA m c) (WB m c) (WO m c) (BO m c) b i (t.val % 2 * 4096 + s.val) := by
  by_cases h0 : t.val % 2 = 0
  · rw [outsAt0_A m c t h0]
    frame_out
    exact tile_out m c h t b hb (by rw [h0]; exact zero_bits) (by rw [h0]; exact zero_bits) z i s
  · rw [outsAt0_B m c t h0]
    have ht := lt16 t
    have hp := scratch_first m c h ⟨t.val - 1, by omega⟩ (by simp only []; omega) b (by simp only []; omega)
    have h1 : t.val % 2 = 1 := by omega
    frame_out
    exact tile_out m c h t b hb (by rw [carried0, h1]; exact hp.1) (by rw [carried1, h1]; exact hp.2) z i s

/-- The kernel's result array. -/
theorem final (c : Dev nD) (h : Spec.Good (X m c) (G m c) (WA m c) (WB m c)) :
    (dats m 0 c).arrAt 5 (cfgs 0).N = Spec.out (X m c) (G m c) (WA m c) (WB m c) (WO m c) (BO m c) := by
  refine (dats m 0 c).arrAt_eq_of_covers 5 _ (by decide +kernel) fun t _ y => ?_
  blk_simp
  rw [after0_5]
  have ht := lt16 t
  idx_vars y
  have h0 := y0.isLt
  have h2 := y2.isLt
  rw [point m c h t ⟨t.val / 2, by omega⟩ rfl]
  have e : ((View.whole main_v0).slice (win0_5.rect t)).emb (ix3 y0 y1 y2)
      = (ix3 ⟨t.val / 2, by omega⟩ y1 ⟨t.val % 2 * 4096 + y2.val, by omega⟩ : S8x512x8192.Idx) := by
    blk_ext! [idx t]
  rw [e]
  rfl

end Cert.KernelValue

end
-- ==== Proof.RefOps.lean ====
/-
  The reference's host operations as lists — what runs before, between and after its two scans, and the two
  scans' bodies and tests — with the facts the run asks of a list: every operation touches ordinary buffers, none
  allocates one, and which buffers each list writes. Then the program is the chain of these lists.
-/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead

@[expose] public section

noncomputable section

namespace Cert.Ref

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.Sem
open Cert.ReferenceIdeal.Facts
open Idealize.ShloMosaic.StableHlo (Plain)

variable {F : FTy → Type} [FloatOps F]

/-- What the reference computes before its first scan: the gate times the momentum, the first softmax, and the first scan's operands. -/
abbrev preOps : List (HloOp τ sig (Elt F)) :=
  [ StableHlo.nullary main_cst (constant S_ .f32 0x3D4CCCCD#32),
    StableHlo.unary main_cst main_v0 (broadcastInDim S8x1x8192 ![] bcast_S_S8x1x8192 : (⟨S_, .f32⟩ : BufTy).Contents (Elt F) → (⟨S8x1x8192, .f32⟩ : BufTy).Contents (Elt F)),
    StableHlo.binary main_arg1 main_v0 main_v1 (mulf : (⟨S8x1x8192, .f32⟩ : BufTy).Contents (Elt F) → (⟨S8x1x8192, .f32⟩ : BufTy).Contents (Elt F) → (⟨S8x1x8192, .f32⟩ : BufTy).Contents (Elt F)),
    StableHlo.nullary main_cst_0 (constant S_ .f32 0xFF800000#32),
    StableHlo.binary main_arg2 main_cst_0 main_v2 ((fun x v => Host.reduce FloatOps.maximumf x v reducesTo_S1x512x1_S1x1_d1 h_S_) : (⟨S1x512x1, .f32⟩ : BufTy).Contents (Elt F) → (⟨S_, .f32⟩ : BufTy).Contents (Elt F) → (⟨S1x1, .f32⟩ : BufTy).Contents (Elt F)),
    StableHlo.nullary main_cst_1 (constant S_ .f32 0xFF800000#32),
    StableHlo.unary main_cst_1 main_v3 (broadcastInDim S1x1 ![] bcast_S_S1x1 : (⟨S_, .f32⟩ : BufTy).Contents (Elt F) → (⟨S1x1, .f32⟩ : BufTy).Contents (Elt F)),
    StableHlo.binary main_v3 main_v2 main_v4 (maximumf : (⟨S1x1, .f32⟩ : BufTy).Contents (Elt F) → (⟨S1x1, .f32⟩ : BufTy).Contents (Elt F) → (⟨S1x1, .f32⟩ : BufTy).Contents (Elt F)),
    StableHlo.unary main_v4 main_v5 (broadcastInDim S1x1x1 ![0, 2] bcast_S1x1_S1x1x1_0_2 : (⟨S1x1, .f32⟩ : BufTy).Contents (Elt F) → (⟨S1x1x1, .f32⟩ : BufTy).Contents (Elt F)),
    StableHlo.unary main_v5 main_v6 (broadcastInDim S1x512x1 ![0, 1, 2] bcast_S1x1x1_S1x512x1_0_1_2 : (⟨S1x1x1, .f32⟩ : BufTy).Contents (Elt F) → (⟨S1x512x1, .f32⟩ : BufTy).Contents (Elt F)),
    StableHlo.binary main_arg2 main_v6 main_v7 (subf : (⟨S1x512x1, .f32⟩ : BufTy).Contents (Elt F) → (⟨S1x512x1, .f32⟩ : BufTy).Contents (Elt F) → (⟨S1x512x1, .f32⟩ : BufTy).Contents (Elt F)),
    StableHlo.unary main_v7 main_v8 (Host.exp : (⟨S1x512x1, .f32⟩ : BufTy).Contents (Elt F) → (⟨S1x512x1, .f32⟩ : BufTy).Contents (Elt F)),
    StableHlo.nullary main_cst_2 (constant S_ .f32 0x00000000#32),
    StableHlo.binary main_v8 main_cst_2 main_v9 ((fun x v => Host.reduceAdd x v reducesTo_S1x512x1_S1x1_d1 h_S_) : (⟨S1x512x1, .f32⟩ : BufTy).Contents (Elt F) → (⟨S_, .f32⟩ : BufTy).Contents (Elt F) → (⟨S1x1, .f32⟩ : BufTy).Contents (Elt F)),
    StableHlo.unary main_v9 main_v10 (broadcastInDim S1x1x1 ![0, 2] bcast_S1x1_S1x1x1_0_2 : (⟨S1x1, .f32⟩ : BufTy).Contents (Elt F) → (⟨S1x1x1, .f32⟩ : BufTy).Contents (Elt F)),
    StableHlo.unary main_v10 main_v11 (broadcastInDim S1x512x1 ![0, 1, 2] bcast_S1x1x1_S1x512x1_0_1_2 : (⟨S1x1x1, .f32⟩ : BufTy).Contents (Elt F) → (⟨S1x512x1, .f32⟩ : BufTy).Contents (Elt F)),
    StableHlo.binary main_v8 main_v11 main_v12 (Host.divf : (⟨S1x512x1, .f32⟩ : BufTy).Contents (Elt F) → (⟨S1x512x1, .f32⟩ : BufTy).Contents (Elt F) → (⟨S1x512x1, .f32⟩ : BufTy).Contents (Elt F)),
    StableHlo.unary main_arg0 main_v13 ((transpose S8192x8x512 [2, 0, 1] · transposes_S8x512x8192_S8192x8x512_2_0_1) : (⟨S8x512x8192, .f32⟩ : BufTy).Contents (Elt F) → (⟨S8192x8x512, .f32⟩ : BufTy).Contents (Elt F)),
    StableHlo.unary main_v1 main_v14 ((transpose S8192x8x1 [2, 0, 1] · transposes_S8x1x8192_S8192x8x1_2_0_1) : (⟨S8x1x8192, .f32⟩ : BufTy).Contents (Elt F) → (⟨S8192x8x1, .f32⟩ : BufTy).Contents (Elt F)),
    StableHlo.nullary main_cst_3 (constant S_ .f32 0x00000000#32),
    StableHlo.unary main_cst_3 main_v15 (broadcastInDim S8x512 ![] bcast_S_S8x512 : (⟨S_, .f32⟩ : BufTy).Contents (Elt F) → (⟨S8x512, .f32⟩ : BufTy).Contents (Elt F)),
    StableHlo.nullary main_cst_4 (constant S_ .f32 0x00000000#32),
    StableHlo.unary main_cst_4 main_v16 (broadcastInDim S8192x8x512 ![] bcast_S_S8192x8x512 : (⟨S_, .f32⟩ : BufTy).Contents (Elt F) → (⟨S8192x8x512, .f32⟩ : BufTy).Contents (Elt F)),
    StableHlo.nullary main_c (constantI S_ 32 0#32),
    StableHlo.unary main_v13 main_v17_0 id,
    StableHlo.unary main_v14 main_v17_1 id,
    StableHlo.unary main_c main_v17_2 id,
    StableHlo.unary main_v15 main_v17_3 id,
    StableHlo.unary main_v16 main_v17_4 id ]
/-- `preOps` touches ordinary buffers only. -/
theorem preOps_sub : (preOps : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub ..⟩
/-- `preOps` allocates nothing. -/
theorem preOps_fresh : (preOps : List (HloOp τ sig (Elt F))).Forall fun op => op.fresh = ∅ :=
  StableHlo.forall_fresh_of_map rfl
/-- The buffers `preOps` writes. -/
abbrev preOps_W : List (Ref sig .tc) := [main_cst, main_v0, main_v1, main_cst_0, main_v2, main_cst_1, main_v3, main_v4, main_v5, main_v6, main_v7, main_v8, main_cst_2, main_v9, main_v10, main_v11, main_v12, main_v13, main_v14, main_cst_3, main_v15, main_cst_4, main_v16, main_c, main_v17_0, main_v17_1, main_v17_2, main_v17_3, main_v17_4]
/-- `preOps` writes those buffers and no other. -/
theorem preOps_writes : (preOps : List (HloOp τ sig (Elt F))).Forall fun op => op.writes ⊆ (preOps_W.map (Proc.devRef (τ := τ) .tc)).toFinset :=
  StableHlo.forall_writes_sub_of_map rfl

/-- Between the scans, first part: the weighted mean, the centred data, the second softmax, the squares. -/
abbrev midOpsA : List (HloOp τ sig (Elt F)) :=
  [ StableHlo.unary main_v17_4 main_v18 ((transpose S8x512x8192 [1, 2, 0] · transposes_S8192x8x512_S8x512x8192_1_2_0) : (⟨S8192x8x512, .f32⟩ : BufTy).Contents (Elt F) → (⟨S8x512x8192, .f32⟩ : BufTy).Contents (Elt F)),
    StableHlo.unary main_v12 main_v19 (broadcastInDim S8x512x8192 ![0, 1, 2] bcast_S1x512x1_S8x512x8192_0_1_2 : (⟨S1x512x1, .f32⟩ : BufTy).Contents (Elt F) → (⟨S8x512x8192, .f32⟩ : BufTy).Contents (Elt F)),
    StableHlo.binary main_v19 main_v18 main_v20 (mulf : (⟨S8x512x8192, .f32⟩ : BufTy).Contents (Elt F) → (⟨S8x512x8192, .f32⟩ : BufTy).Contents (Elt F) → (⟨S8x512x8192, .f32⟩ : BufTy).Contents (Elt F)),
    StableHlo.nullary main_cst_5 (constant S_ .f32 0x00000000#32),
    StableHlo.binary main_v20 main_cst_5 main_v21 ((fun x v => Host.reduceAdd x v reducesTo_S8x512x8192_S8x8192_d1 h_S_) : (⟨S8x512x8192, .f32⟩ : BufTy).Contents (Elt F) → (⟨S_, .f32⟩ : BufTy).Contents (Elt F) → (⟨S8x8192, .f32⟩ : BufTy).Contents (Elt F)),
    StableHlo.unary main_v21 main_v22 (broadcastInDim S8x1x8192 ![0, 2] bcast_S8x8192_S8x1x8192_0_2 : (⟨S8x8192, .f32⟩ : BufTy).Contents (Elt F) → (⟨S8x1x8192, .f32⟩ : BufTy).Contents (Elt F)),
    StableHlo.unary main_v22 main_v23 (broadcastInDim S8x512x8192 ![0, 1, 2] bcast_S8x1x8192_S8x512x8192_0_1_2 : (⟨S8x1x8192, .f32⟩ : BufTy).Contents (Elt F) → (⟨S8x512x8192, .f32⟩ : BufTy).Contents (Elt F)),
    StableHlo.binary main_arg0 main_v23 main_v24 (subf : (⟨S8x512x8192, .f32⟩ : BufTy).Contents (Elt F) → (⟨S8x512x8192, .f32⟩ : BufTy).Contents (Elt F) → (⟨S8x512x8192, .f32⟩ : BufTy).Contents (Elt F)),
    StableHlo.nullary main_cst_6 (constant S_ .f32 0xFF800000#32),
    StableHlo.binary main_arg3 main_cst_6 main_v25 ((fun x v => Host.reduce FloatOps.maximumf x v reducesTo_S1x512x1_S1x1_d1 h_S_) : (⟨S1x512x1, .f32⟩ : BufTy).Contents (Elt F) → (⟨S_, .f32⟩ : BufTy).Contents (Elt F) → (⟨S1x1, .f32⟩ : BufTy).Contents (Elt F)),
    StableHlo.nullary main_cst_7 (constant S_ .f32 0xFF800000#32),
    StableHlo.unary main_cst_7 main_v26 (broadcastInDim S1x1 ![] bcast_S_S1x1 : (⟨S_, .f32⟩ : BufTy).Contents (Elt F) → (⟨S1x1, .f32⟩ : BufTy).Contents (Elt F)),
    StableHlo.binary main_v26 main_v25 main_v27 (maximumf : (⟨S1x1, .f32⟩ : BufTy).Contents (Elt F) → (⟨S1x1, .f32⟩ : BufTy).Contents (Elt F) → (⟨S1x1, .f32⟩ : BufTy).Contents (Elt F)),
    StableHlo.unary main_v27 main_v28 (broadcastInDim S1x1x1 ![0, 2] bcast_S1x1_S1x1x1_0_2 : (⟨S1x1, .f32⟩ : BufTy).Contents (Elt F) → (⟨S1x1x1, .f32⟩ : BufTy).Contents (Elt F)),
    StableHlo.unary main_v28 main_v29 (broadcastInDim S1x512x1 ![0, 1, 2] bcast_S1x1x1_S1x512x1_0_1_2 : (⟨S1x1x1, .f32⟩ : BufTy).Contents (Elt F) → (⟨S1x512x1, .f32⟩ : BufTy).Contents (Elt F)),
    StableHlo.binary main_arg3 main_v29 main_v30 (subf : (⟨S1x512x1, .f32⟩ : BufTy).Contents (Elt F) → (⟨S1x512x1, .f32⟩ : BufTy).Contents (Elt F) → (⟨S1x512x1, .f32⟩ : BufTy).Contents (Elt F)),
    StableHlo.unary main_v30 main_v31 (Host.exp : (⟨S1x512x1, .f32⟩ : BufTy).Contents (Elt F) → (⟨S1x512x1, .f32⟩ : BufTy).Contents (Elt F)),
    StableHlo.nullary main_cst_8 (constant S_ .f32 0x00000000#32),
    StableHlo.binary main_v31 main_cst_8 main_v32 ((fun x v => Host.reduceAdd x v reducesTo_S1x512x1_S1x1_d1 h_S_) : (⟨S1x512x1, .f32⟩ : BufTy).Contents (Elt F) → (⟨S_, .f32⟩ : BufTy).Contents (Elt F) → (⟨S1x1, .f32⟩ : BufTy).Contents (Elt F)),
    StableHlo.unary main_v32 main_v33 (broadcastInDim S1x1x1 ![0, 2] bcast_S1x1_S1x1x1_0_2 : (⟨S1x1, .f32⟩ : BufTy).Contents (Elt F) → (⟨S1x1x1, .f32⟩ : BufTy).Contents (Elt F)),
    StableHlo.unary main_v33 main_v34 (broadcastInDim S1x512x1 ![0, 1, 2] bcast_S1x1x1_S1x512x1_0_1_2 : (⟨S1x1x1, .f32⟩ : BufTy).Contents (Elt F) → (⟨S1x512x1, .f32⟩ : BufTy).Contents (Elt F)),
    StableHlo.binary main_v31 main_v34 main_v35 (Host.divf : (⟨S1x512x1, .f32⟩ : BufTy).Contents (Elt F) → (⟨S1x512x1, .f32⟩ : BufTy).Contents (Elt F) → (⟨S1x512x1, .f32⟩ : BufTy).Contents (Elt F)),
    StableHlo.binary main_v24 main_v24 main_v36 (mulf : (⟨S8x512x8192, .f32⟩ : BufTy).Contents (Elt F) → (⟨S8x512x8192, .f32⟩ : BufTy).Contents (Elt F) → (⟨S8x512x8192, .f32⟩ : BufTy).Contents (Elt F)),
    StableHlo.unary main_v36 main_v37 ((transpose S8192x8x512 [2, 0, 1] · transposes_S8x512x8192_S8192x8x512_2_0_1) : (⟨S8x512x8192, .f32⟩ : BufTy).Contents (Elt F) → (⟨S8192x8x512, .f32⟩ : BufTy).Contents (Elt F)),
    StableHlo.unary main_v1 main_v38 ((transpose S8192x8x1 [2, 0, 1] · transposes_S8x1x8192_S8192x8x1_2_0_1) : (⟨S8x1x8192, .f32⟩ : BufTy).Contents (Elt F) → (⟨S8192x8x1, .f32⟩ : BufTy).Contents (Elt F)),
    StableHlo.nullary main_cst_9 (constant S_ .f32 0x00000000#32),
    StableHlo.unary main_cst_9 main_v39 (broadcastInDim S8x512 ![] bcast_S_S8x512 : (⟨S_, .f32⟩ : BufTy).Contents (Elt F) → (⟨S8x512, .f32⟩ : BufTy).Contents (Elt F)),
    StableHlo.nullary main_cst_10 (constant S_ .f32 0x00000000#32),
    StableHlo.unary main_cst_10 main_v40 (broadcastInDim S8192x8x512 ![] bcast_S_S8192x8x512 : (⟨S_, .f32⟩ : BufTy).Contents (Elt F) → (⟨S8192x8x512, .f32⟩ : BufTy).Contents (Elt F)),
    StableHlo.nullary main_c_11 (constantI S_ 32 0#32) ]
/-- `midOpsA` touches ordinary buffers only. -/
theorem midOpsA_sub : (midOpsA : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.nullary_bufs_sub .., StableHlo.unary_bufs_sub .., StableHlo.nullary_bufs_sub ..⟩
/-- `midOpsA` allocates nothing. -/
theorem midOpsA_fresh : (midOpsA : List (HloOp τ sig (Elt F))).Forall fun op => op.fresh = ∅ :=
  StableHlo.forall_fresh_of_map rfl
/-- The buffers `midOpsA` writes. -/
abbrev midOpsA_W : List (Ref sig .tc) := [main_v18, main_v19, main_v20, main_cst_5, main_v21, main_v22, main_v23, main_v24, main_cst_6, main_v25, main_cst_7, main_v26, main_v27, main_v28, main_v29, main_v30, main_v31, main_cst_8, main_v32, main_v33, main_v34, main_v35, main_v36, main_v37, main_v38, main_cst_9, main_v39, main_cst_10, main_v40, main_c_11]
/-- `midOpsA` writes those buffers and no other. -/
theorem midOpsA_writes : (midOpsA : List (HloOp τ sig (Elt F))).Forall fun op => op.writes ⊆ (midOpsA_W.map (Proc.devRef (τ := τ) .tc)).toFinset :=
  StableHlo.forall_writes_sub_of_map rfl

/-- Between the scans, second part: the second scan's operands. -/
abbrev midOpsB : List (HloOp τ sig (Elt F)) :=
  [ StableHlo.unary main_v37 main_v41_0 id,
    StableHlo.unary main_v38 main_v41_1 id,
    StableHlo.unary main_c_11 main_v41_2 id,
    StableHlo.unary main_v39 main_v41_3 id,
    StableHlo.unary main_v40 main_v41_4 id ]
/-- `midOpsB` touches ordinary buffers only. -/
theorem midOpsB_sub : (midOpsB : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub ..⟩
/-- `midOpsB` allocates nothing. -/
theorem midOpsB_fresh : (midOpsB : List (HloOp τ sig (Elt F))).Forall fun op => op.fresh = ∅ :=
  StableHlo.forall_fresh_of_map rfl
/-- The buffers `midOpsB` writes. -/
abbrev midOpsB_W : List (Ref sig .tc) := [main_v41_0, main_v41_1, main_v41_2, main_v41_3, main_v41_4]
/-- `midOpsB` writes those buffers and no other. -/
theorem midOpsB_writes : (midOpsB : List (HloOp τ sig (Elt F))).Forall fun op => op.writes ⊆ (midOpsB_W.map (Proc.devRef (τ := τ) .tc)).toFinset :=
  StableHlo.forall_writes_sub_of_map rfl

/-- After the second scan: the weighted variance, the normalisation, the scale and the bias. -/
abbrev postOps : List (HloOp τ sig (Elt F)) :=
  [ StableHlo.unary main_v41_4 main_v42 ((transpose S8x512x8192 [1, 2, 0] · transposes_S8192x8x512_S8x512x8192_1_2_0) : (⟨S8192x8x512, .f32⟩ : BufTy).Contents (Elt F) → (⟨S8x512x8192, .f32⟩ : BufTy).Contents (Elt F)),
    StableHlo.unary main_v35 main_v43 (broadcastInDim S8x512x8192 ![0, 1, 2] bcast_S1x512x1_S8x512x8192_0_1_2 : (⟨S1x512x1, .f32⟩ : BufTy).Contents (Elt F) → (⟨S8x512x8192, .f32⟩ : BufTy).Contents (Elt F)),
    StableHlo.binary main_v43 main_v42 main_v44 (mulf : (⟨S8x512x8192, .f32⟩ : BufTy).Contents (Elt F) → (⟨S8x512x8192, .f32⟩ : BufTy).Contents (Elt F) → (⟨S8x512x8192, .f32⟩ : BufTy).Contents (Elt F)),
    StableHlo.nullary main_cst_12 (constant S_ .f32 0x00000000#32),
    StableHlo.binary main_v44 main_cst_12 main_v45 ((fun x v => Host.reduceAdd x v reducesTo_S8x512x8192_S8x8192_d1 h_S_) : (⟨S8x512x8192, .f32⟩ : BufTy).Contents (Elt F) → (⟨S_, .f32⟩ : BufTy).Contents (Elt F) → (⟨S8x8192, .f32⟩ : BufTy).Contents (Elt F)),
    StableHlo.unary main_v45 main_v46 (broadcastInDim S8x1x8192 ![0, 2] bcast_S8x8192_S8x1x8192_0_2 : (⟨S8x8192, .f32⟩ : BufTy).Contents (Elt F) → (⟨S8x1x8192, .f32⟩ : BufTy).Contents (Elt F)),
    StableHlo.nullary main_cst_13 (constant S_ .f32 0x358637BD#32),
    StableHlo.unary main_cst_13 main_v47 (broadcastInDim S8x1x8192 ![] bcast_S_S8x1x8192 : (⟨S_, .f32⟩ : BufTy).Contents (Elt F) → (⟨S8x1x8192, .f32⟩ : BufTy).Contents (Elt F)),
    StableHlo.binary main_v46 main_v47 main_v48 (addf : (⟨S8x1x8192, .f32⟩ : BufTy).Contents (Elt F) → (⟨S8x1x8192, .f32⟩ : BufTy).Contents (Elt F) → (⟨S8x1x8192, .f32⟩ : BufTy).Contents (Elt F)),
    StableHlo.unary main_v48 main_v49 (Host.sqrt : (⟨S8x1x8192, .f32⟩ : BufTy).Contents (Elt F) → (⟨S8x1x8192, .f32⟩ : BufTy).Contents (Elt F)),
    StableHlo.unary main_v49 main_v50 (broadcastInDim S8x512x8192 ![0, 1, 2] bcast_S8x1x8192_S8x512x8192_0_1_2 : (⟨S8x1x8192, .f32⟩ : BufTy).Contents (Elt F) → (⟨S8x512x8192, .f32⟩ : BufTy).Contents (Elt F)),
    StableHlo.binary main_v24 main_v50 main_v51 (Host.divf : (⟨S8x512x8192, .f32⟩ : BufTy).Contents (Elt F) → (⟨S8x512x8192, .f32⟩ : BufTy).Contents (Elt F) → (⟨S8x512x8192, .f32⟩ : BufTy).Contents (Elt F)),
    StableHlo.reshape main_arg4 main_v52 (rfl : (.f32 : EltTy) = .f32) shapeCasts_S512x1x1_S1x512x1,
    StableHlo.unary main_v52 main_v53 (broadcastInDim S8x512x8192 ![0, 1, 2] bcast_S1x512x1_S8x512x8192_0_1_2 : (⟨S1x512x1, .f32⟩ : BufTy).Contents (Elt F) → (⟨S8x512x8192, .f32⟩ : BufTy).Contents (Elt F)),
    StableHlo.binary main_v51 main_v53 main_v54 (mulf : (⟨S8x512x8192, .f32⟩ : BufTy).Contents (Elt F) → (⟨S8x512x8192, .f32⟩ : BufTy).Contents (Elt F) → (⟨S8x512x8192, .f32⟩ : BufTy).Contents (Elt F)),
    StableHlo.reshape main_arg5 main_v55 (rfl : (.f32 : EltTy) = .f32) shapeCasts_S512_S1x512x1,
    StableHlo.unary main_v55 main_v56 (broadcastInDim S8x512x8192 ![0, 1, 2] bcast_S1x512x1_S8x512x8192_0_1_2 : (⟨S1x512x1, .f32⟩ : BufTy).Contents (Elt F) → (⟨S8x512x8192, .f32⟩ : BufTy).Contents (Elt F)),
    StableHlo.binary main_v54 main_v56 main_v57 (addf : (⟨S8x512x8192, .f32⟩ : BufTy).Contents (Elt F) → (⟨S8x512x8192, .f32⟩ : BufTy).Contents (Elt F) → (⟨S8x512x8192, .f32⟩ : BufTy).Contents (Elt F)) ]
/-- `postOps` touches ordinary buffers only. -/
theorem postOps_sub : (postOps : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.unary_bufs_sub .., StableHlo.binary_bufs_sub .., StableHlo.reshape_bufs_sub .., StableHlo.unary_bufs_sub .., StableHlo.binary_bufs_sub .., StableHlo.reshape_bufs_sub .., StableHlo.unary_bufs_sub .., StableHlo.binary_bufs_sub ..⟩
/-- `postOps` allocates nothing. -/
theorem postOps_fresh : (postOps : List (HloOp τ sig (Elt F))).Forall fun op => op.fresh = ∅ :=
  StableHlo.forall_fresh_of_map rfl
/-- The buffers `postOps` writes. -/
abbrev postOps_W : List (Ref sig .tc) := [main_v42, main_v43, main_v44, main_cst_12, main_v45, main_v46, main_cst_13, main_v47, main_v48, main_v49, main_v50, main_v51, main_v52, main_v53, main_v54, main_v55, main_v56, main_v57]
/-- `postOps` writes those buffers and no other. -/
theorem postOps_writes : (postOps : List (HloOp τ sig (Elt F))).Forall fun op => op.writes ⊆ (postOps_W.map (Proc.devRef (τ := τ) .tc)).toFinset :=
  StableHlo.forall_writes_sub_of_map rfl

/-- The first scan's body, part 0. -/
abbrev bodyA0 : List (HloOp τ sig (Elt F)) :=
  [ StableHlo.TRef.nullary (.of main_while0b_call0_c : StableHlo.TRef sig ⟨S_, .i32⟩) (constantI S_ 32 0#32),
    StableHlo.TRef.nullary (.of main_while0b_call0_c_0 : StableHlo.TRef sig ⟨S_, .i32⟩) (constantI S_ 32 0#32),
    StableHlo.TRef.unaryIndexed (.of main_v17_0 : StableHlo.TRef sig ⟨S8192x8x512, .f32⟩) ![(.of main_v17_2 : StableHlo.TRef sig ⟨S_, .i32⟩), (.of main_while0b_call0_c : StableHlo.TRef sig ⟨S_, .i32⟩), (.of main_while0b_call0_c_0 : StableHlo.TRef sig ⟨S_, .i32⟩)] (.of main_while0b_call0_v0 : StableHlo.TRef sig ⟨S1x8x512, .f32⟩) (fun x i => Host.dynamicSlice S1x8x512 x (fun k => (i k (Shape.Idx.first h_S_)).toInt) sliceFits_S8192x8x512_S1x8x512),
    StableHlo.TRef.reshape (.of main_while0b_call0_v0 : StableHlo.TRef sig ⟨S1x8x512, .f32⟩) (.of main_while0b_v58 : StableHlo.TRef sig ⟨S8x512, .f32⟩) (rfl : (.f32 : EltTy) = .f32) shapeCasts_S1x8x512_S8x512 ]
/-- `bodyA0` touches ordinary buffers only. -/
theorem bodyA0_sub : (bodyA0 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
/-- `bodyA0` allocates nothing. -/
theorem bodyA0_fresh : (bodyA0 : List (HloOp τ sig (Elt F))).Forall fun op => op.fresh = ∅ :=
  StableHlo.forall_fresh_of_map rfl
/-- The buffers `bodyA0` writes. -/
abbrev bodyA0_W : List (Ref sig .tc) := [main_while0b_call0_c, main_while0b_call0_c_0, main_while0b_call0_v0, main_while0b_v58]
/-- `bodyA0` writes those buffers and no other. -/
theorem bodyA0_writes : (bodyA0 : List (HloOp τ sig (Elt F))).Forall fun op => op.writes ⊆ (bodyA0_W.map (Proc.devRef (τ := τ) .tc)).toFinset :=
  StableHlo.forall_writes_sub_of_map rfl

/-- The first scan's body, part 1. -/
abbrev bodyA1 : List (HloOp τ sig (Elt F)) :=
  [ StableHlo.TRef.nullary (.of main_while0b_call1_c : StableHlo.TRef sig ⟨S_, .i32⟩) (constantI S_ 32 0#32),
    StableHlo.TRef.nullary (.of main_while0b_call1_c_0 : StableHlo.TRef sig ⟨S_, .i32⟩) (constantI S_ 32 0#32),
    StableHlo.TRef.unaryIndexed (.of main_v17_1 : StableHlo.TRef sig ⟨S8192x8x1, .f32⟩) ![(.of main_v17_2 : StableHlo.TRef sig ⟨S_, .i32⟩), (.of main_while0b_call1_c : StableHlo.TRef sig ⟨S_, .i32⟩), (.of main_while0b_call1_c_0 : StableHlo.TRef sig ⟨S_, .i32⟩)] (.of main_while0b_call1_v0 : StableHlo.TRef sig ⟨S1x8x1, .f32⟩) (fun x i => Host.dynamicSlice S1x8x1 x (fun k => (i k (Shape.Idx.first h_S_)).toInt) sliceFits_S8192x8x1_S1x8x1),
    StableHlo.TRef.reshape (.of main_while0b_call1_v0 : StableHlo.TRef sig ⟨S1x8x1, .f32⟩) (.of main_while0b_v59 : StableHlo.TRef sig ⟨S8x1, .f32⟩) (rfl : (.f32 : EltTy) = .f32) shapeCasts_S1x8x1_S8x1 ]
/-- `bodyA1` touches ordinary buffers only. -/
theorem bodyA1_sub : (bodyA1 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
/-- `bodyA1` allocates nothing. -/
theorem bodyA1_fresh : (bodyA1 : List (HloOp τ sig (Elt F))).Forall fun op => op.fresh = ∅ :=
  StableHlo.forall_fresh_of_map rfl
/-- The buffers `bodyA1` writes. -/
abbrev bodyA1_W : List (Ref sig .tc) := [main_while0b_call1_c, main_while0b_call1_c_0, main_while0b_call1_v0, main_while0b_v59]
/-- `bodyA1` writes those buffers and no other. -/
theorem bodyA1_writes : (bodyA1 : List (HloOp τ sig (Elt F))).Forall fun op => op.writes ⊆ (bodyA1_W.map (Proc.devRef (τ := τ) .tc)).toFinset :=
  StableHlo.forall_writes_sub_of_map rfl

/-- The first scan's body, part 2. -/
abbrev bodyA2 : List (HloOp τ sig (Elt F)) :=
  [ StableHlo.nullary main_while0b_cst_18 (constant S_ .f32 0x3F800000#32),
    StableHlo.unary main_while0b_cst_18 main_while0b_v60 (broadcastInDim S8x1 ![] bcast_S_S8x1 : (⟨S_, .f32⟩ : BufTy).Contents (Elt F) → (⟨S8x1, .f32⟩ : BufTy).Contents (Elt F)),
    StableHlo.binary main_while0b_v60 main_while0b_v59 main_while0b_v61 (subf : (⟨S8x1, .f32⟩ : BufTy).Contents (Elt F) → (⟨S8x1, .f32⟩ : BufTy).Contents (Elt F) → (⟨S8x1, .f32⟩ : BufTy).Contents (Elt F)),
    StableHlo.unary main_while0b_v61 main_while0b_v62 (broadcastInDim S8x512 ![0, 1] bcast_S8x1_S8x512_0_1 : (⟨S8x1, .f32⟩ : BufTy).Contents (Elt F) → (⟨S8x512, .f32⟩ : BufTy).Contents (Elt F)),
    StableHlo.binary main_while0b_v62 main_v17_3 main_while0b_v63 (mulf : (⟨S8x512, .f32⟩ : BufTy).Contents (Elt F) → (⟨S8x512, .f32⟩ : BufTy).Contents (Elt F) → (⟨S8x512, .f32⟩ : BufTy).Contents (Elt F)),
    StableHlo.unary main_while0b_v59 main_while0b_v64 (broadcastInDim S8x512 ![0, 1] bcast_S8x1_S8x512_0_1 : (⟨S8x1, .f32⟩ : BufTy).Contents (Elt F) → (⟨S8x512, .f32⟩ : BufTy).Contents (Elt F)),
    StableHlo.binary main_while0b_v64 main_while0b_v58 main_while0b_v65 (mulf : (⟨S8x512, .f32⟩ : BufTy).Contents (Elt F) → (⟨S8x512, .f32⟩ : BufTy).Contents (Elt F) → (⟨S8x512, .f32⟩ : BufTy).Contents (Elt F)),
    StableHlo.binary main_while0b_v63 main_while0b_v65 main_while0b_v66 (addf : (⟨S8x512, .f32⟩ : BufTy).Contents (Elt F) → (⟨S8x512, .f32⟩ : BufTy).Contents (Elt F) → (⟨S8x512, .f32⟩ : BufTy).Contents (Elt F)) ]
/-- `bodyA2` touches ordinary buffers only. -/
theorem bodyA2_sub : (bodyA2 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.binary_bufs_sub .., StableHlo.unary_bufs_sub .., StableHlo.binary_bufs_sub .., StableHlo.binary_bufs_sub ..⟩
/-- `bodyA2` allocates nothing. -/
theorem bodyA2_fresh : (bodyA2 : List (HloOp τ sig (Elt F))).Forall fun op => op.fresh = ∅ :=
  StableHlo.forall_fresh_of_map rfl
/-- The buffers `bodyA2` writes. -/
abbrev bodyA2_W : List (Ref sig .tc) := [main_while0b_cst_18, main_while0b_v60, main_while0b_v61, main_while0b_v62, main_while0b_v63, main_while0b_v64, main_while0b_v65, main_while0b_v66]
/-- `bodyA2` writes those buffers and no other. -/
theorem bodyA2_writes : (bodyA2 : List (HloOp τ sig (Elt F))).Forall fun op => op.writes ⊆ (bodyA2_W.map (Proc.devRef (τ := τ) .tc)).toFinset :=
  StableHlo.forall_writes_sub_of_map rfl

/-- The first scan's body, part 3. -/
abbrev bodyA3 : List (HloOp τ sig (Elt F)) :=
  [ StableHlo.TRef.unary (.of main_while0b_v66 : StableHlo.TRef sig ⟨S8x512, .f32⟩) (.of main_while0b_call2_v0 : StableHlo.TRef sig ⟨S1x8x512, .f32⟩) (broadcastInDim S1x8x512 ![1, 2] bcast_S8x512_S1x8x512_1_2),
    StableHlo.TRef.nullary (.of main_while0b_call2_c : StableHlo.TRef sig ⟨S_, .i32⟩) (constantI S_ 32 0#32),
    StableHlo.TRef.nullary (.of main_while0b_call2_c_0 : StableHlo.TRef sig ⟨S_, .i32⟩) (constantI S_ 32 0#32),
    StableHlo.TRef.binaryIndexed (.of main_v17_4 : StableHlo.TRef sig ⟨S8192x8x512, .f32⟩) (.of main_while0b_call2_v0 : StableHlo.TRef sig ⟨S1x8x512, .f32⟩) ![(.of main_v17_2 : StableHlo.TRef sig ⟨S_, .i32⟩), (.of main_while0b_call2_c : StableHlo.TRef sig ⟨S_, .i32⟩), (.of main_while0b_call2_c_0 : StableHlo.TRef sig ⟨S_, .i32⟩)] (.of main_while0b_v67 : StableHlo.TRef sig ⟨S8192x8x512, .f32⟩) (fun x u i => Host.dynamicUpdateSlice x u (fun k => (i k (Shape.Idx.first h_S_)).toInt) updateFits_S8192x8x512_S1x8x512) ]
/-- `bodyA3` touches ordinary buffers only. -/
theorem bodyA3_sub : (bodyA3 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
/-- `bodyA3` allocates nothing. -/
theorem bodyA3_fresh : (bodyA3 : List (HloOp τ sig (Elt F))).Forall fun op => op.fresh = ∅ :=
  StableHlo.forall_fresh_of_map rfl
/-- The buffers `bodyA3` writes. -/
abbrev bodyA3_W : List (Ref sig .tc) := [main_while0b_call2_v0, main_while0b_call2_c, main_while0b_call2_c_0, main_while0b_v67]
/-- `bodyA3` writes those buffers and no other. -/
theorem bodyA3_writes : (bodyA3 : List (HloOp τ sig (Elt F))).Forall fun op => op.writes ⊆ (bodyA3_W.map (Proc.devRef (τ := τ) .tc)).toFinset :=
  StableHlo.forall_writes_sub_of_map rfl

/-- The first scan's body, part 4. -/
abbrev bodyA4 : List (HloOp τ sig (Elt F)) :=
  [ StableHlo.nullary main_while0b_c_19 (constantI S_ 32 1#32),
    StableHlo.binary main_v17_2 main_while0b_c_19 main_while0b_v68 (addi : (⟨S_, .i32⟩ : BufTy).Contents (Elt F) → (⟨S_, .i32⟩ : BufTy).Contents (Elt F) → (⟨S_, .i32⟩ : BufTy).Contents (Elt F)),
    StableHlo.unary main_while0b_v68 main_v17_2 id,
    StableHlo.unary main_while0b_v66 main_v17_3 id,
    StableHlo.unary main_while0b_v67 main_v17_4 id ]
/-- `bodyA4` touches ordinary buffers only. -/
theorem bodyA4_sub : (bodyA4 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub ..⟩
/-- `bodyA4` allocates nothing. -/
theorem bodyA4_fresh : (bodyA4 : List (HloOp τ sig (Elt F))).Forall fun op => op.fresh = ∅ :=
  StableHlo.forall_fresh_of_map rfl
/-- The buffers `bodyA4` writes. -/
abbrev bodyA4_W : List (Ref sig .tc) := [main_while0b_c_19, main_while0b_v68, main_v17_2, main_v17_3, main_v17_4]
/-- `bodyA4` writes those buffers and no other. -/
theorem bodyA4_writes : (bodyA4 : List (HloOp τ sig (Elt F))).Forall fun op => op.writes ⊆ (bodyA4_W.map (Proc.devRef (τ := τ) .tc)).toFinset :=
  StableHlo.forall_writes_sub_of_map rfl

/-- The second scan's body, part 0. -/
abbrev bodyB0 : List (HloOp τ sig (Elt F)) :=
  [ StableHlo.TRef.nullary (.of main_while1b_call3_c : StableHlo.TRef sig ⟨S_, .i32⟩) (constantI S_ 32 0#32),
    StableHlo.TRef.nullary (.of main_while1b_call3_c_0 : StableHlo.TRef sig ⟨S_, .i32⟩) (constantI S_ 32 0#32),
    StableHlo.TRef.unaryIndexed (.of main_v41_0 : StableHlo.TRef sig ⟨S8192x8x512, .f32⟩) ![(.of main_v41_2 : StableHlo.TRef sig ⟨S_, .i32⟩), (.of main_while1b_call3_c : StableHlo.TRef sig ⟨S_, .i32⟩), (.of main_while1b_call3_c_0 : StableHlo.TRef sig ⟨S_, .i32⟩)] (.of main_while1b_call3_v0 : StableHlo.TRef sig ⟨S1x8x512, .f32⟩) (fun x i => Host.dynamicSlice S1x8x512 x (fun k => (i k (Shape.Idx.first h_S_)).toInt) sliceFits_S8192x8x512_S1x8x512),
    StableHlo.TRef.reshape (.of main_while1b_call3_v0 : StableHlo.TRef sig ⟨S1x8x512, .f32⟩) (.of main_while1b_v58 : StableHlo.TRef sig ⟨S8x512, .f32⟩) (rfl : (.f32 : EltTy) = .f32) shapeCasts_S1x8x512_S8x512 ]
/-- `bodyB0` touches ordinary buffers only. -/
theorem bodyB0_sub : (bodyB0 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
/-- `bodyB0` allocates nothing. -/
theorem bodyB0_fresh : (bodyB0 : List (HloOp τ sig (Elt F))).Forall fun op => op.fresh = ∅ :=
  StableHlo.forall_fresh_of_map rfl
/-- The buffers `bodyB0` writes. -/
abbrev bodyB0_W : List (Ref sig .tc) := [main_while1b_call3_c, main_while1b_call3_c_0, main_while1b_call3_v0, main_while1b_v58]
/-- `bodyB0` writes those buffers and no other. -/
theorem bodyB0_writes : (bodyB0 : List (HloOp τ sig (Elt F))).Forall fun op => op.writes ⊆ (bodyB0_W.map (Proc.devRef (τ := τ) .tc)).toFinset :=
  StableHlo.forall_writes_sub_of_map rfl

/-- The second scan's body, part 1. -/
abbrev bodyB1 : List (HloOp τ sig (Elt F)) :=
  [ StableHlo.TRef.nullary (.of main_while1b_call4_c : StableHlo.TRef sig ⟨S_, .i32⟩) (constantI S_ 32 0#32),
    StableHlo.TRef.nullary (.of main_while1b_call4_c_0 : StableHlo.TRef sig ⟨S_, .i32⟩) (constantI S_ 32 0#32),
    StableHlo.TRef.unaryIndexed (.of main_v41_1 : StableHlo.TRef sig ⟨S8192x8x1, .f32⟩) ![(.of main_v41_2 : StableHlo.TRef sig ⟨S_, .i32⟩), (.of main_while1b_call4_c : StableHlo.TRef sig ⟨S_, .i32⟩), (.of main_while1b_call4_c_0 : StableHlo.TRef sig ⟨S_, .i32⟩)] (.of main_while1b_call4_v0 : StableHlo.TRef sig ⟨S1x8x1, .f32⟩) (fun x i => Host.dynamicSlice S1x8x1 x (fun k => (i k (Shape.Idx.first h_S_)).toInt) sliceFits_S8192x8x1_S1x8x1),
    StableHlo.TRef.reshape (.of main_while1b_call4_v0 : StableHlo.TRef sig ⟨S1x8x1, .f32⟩) (.of main_while1b_v59 : StableHlo.TRef sig ⟨S8x1, .f32⟩) (rfl : (.f32 : EltTy) = .f32) shapeCasts_S1x8x1_S8x1 ]
/-- `bodyB1` touches ordinary buffers only. -/
theorem bodyB1_sub : (bodyB1 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
/-- `bodyB1` allocates nothing. -/
theorem bodyB1_fresh : (bodyB1 : List (HloOp τ sig (Elt F))).Forall fun op => op.fresh = ∅ :=
  StableHlo.forall_fresh_of_map rfl
/-- The buffers `bodyB1` writes. -/
abbrev bodyB1_W : List (Ref sig .tc) := [main_while1b_call4_c, main_while1b_call4_c_0, main_while1b_call4_v0, main_while1b_v59]
/-- `bodyB1` writes those buffers and no other. -/
theorem bodyB1_writes : (bodyB1 : List (HloOp τ sig (Elt F))).Forall fun op => op.writes ⊆ (bodyB1_W.map (Proc.devRef (τ := τ) .tc)).toFinset :=
  StableHlo.forall_writes_sub_of_map rfl

/-- The second scan's body, part 2. -/
abbrev bodyB2 : List (HloOp τ sig (Elt F)) :=
  [ StableHlo.nullary main_while1b_cst_18 (constant S_ .f32 0x3F800000#32),
    StableHlo.unary main_while1b_cst_18 main_while1b_v60 (broadcastInDim S8x1 ![] bcast_S_S8x1 : (⟨S_, .f32⟩ : BufTy).Contents (Elt F) → (⟨S8x1, .f32⟩ : BufTy).Contents (Elt F)),
    StableHlo.binary main_while1b_v60 main_while1b_v59 main_while1b_v61 (subf : (⟨S8x1, .f32⟩ : BufTy).Contents (Elt F) → (⟨S8x1, .f32⟩ : BufTy).Contents (Elt F) → (⟨S8x1, .f32⟩ : BufTy).Contents (Elt F)),
    StableHlo.unary main_while1b_v61 main_while1b_v62 (broadcastInDim S8x512 ![0, 1] bcast_S8x1_S8x512_0_1 : (⟨S8x1, .f32⟩ : BufTy).Contents (Elt F) → (⟨S8x512, .f32⟩ : BufTy).Contents (Elt F)),
    StableHlo.binary main_while1b_v62 main_v41_3 main_while1b_v63 (mulf : (⟨S8x512, .f32⟩ : BufTy).Contents (Elt F) → (⟨S8x512, .f32⟩ : BufTy).Contents (Elt F) → (⟨S8x512, .f32⟩ : BufTy).Contents (Elt F)),
    StableHlo.unary main_while1b_v59 main_while1b_v64 (broadcastInDim S8x512 ![0, 1] bcast_S8x1_S8x512_0_1 : (⟨S8x1, .f32⟩ : BufTy).Contents (Elt F) → (⟨S8x512, .f32⟩ : BufTy).Contents (Elt F)),
    StableHlo.binary main_while1b_v64 main_while1b_v58 main_while1b_v65 (mulf : (⟨S8x512, .f32⟩ : BufTy).Contents (Elt F) → (⟨S8x512, .f32⟩ : BufTy).Contents (Elt F) → (⟨S8x512, .f32⟩ : BufTy).Contents (Elt F)),
    StableHlo.binary main_while1b_v63 main_while1b_v65 main_while1b_v66 (addf : (⟨S8x512, .f32⟩ : BufTy).Contents (Elt F) → (⟨S8x512, .f32⟩ : BufTy).Contents (Elt F) → (⟨S8x512, .f32⟩ : BufTy).Contents (Elt F)) ]
/-- `bodyB2` touches ordinary buffers only. -/
theorem bodyB2_sub : (bodyB2 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.binary_bufs_sub .., StableHlo.unary_bufs_sub .., StableHlo.binary_bufs_sub .., StableHlo.binary_bufs_sub ..⟩
/-- `bodyB2` allocates nothing. -/
theorem bodyB2_fresh : (bodyB2 : List (HloOp τ sig (Elt F))).Forall fun op => op.fresh = ∅ :=
  StableHlo.forall_fresh_of_map rfl
/-- The buffers `bodyB2` writes. -/
abbrev bodyB2_W : List (Ref sig .tc) := [main_while1b_cst_18, main_while1b_v60, main_while1b_v61, main_while1b_v62, main_while1b_v63, main_while1b_v64, main_while1b_v65, main_while1b_v66]
/-- `bodyB2` writes those buffers and no other. -/
theorem bodyB2_writes : (bodyB2 : List (HloOp τ sig (Elt F))).Forall fun op => op.writes ⊆ (bodyB2_W.map (Proc.devRef (τ := τ) .tc)).toFinset :=
  StableHlo.forall_writes_sub_of_map rfl

/-- The second scan's body, part 3. -/
abbrev bodyB3 : List (HloOp τ sig (Elt F)) :=
  [ StableHlo.TRef.unary (.of main_while1b_v66 : StableHlo.TRef sig ⟨S8x512, .f32⟩) (.of main_while1b_call5_v0 : StableHlo.TRef sig ⟨S1x8x512, .f32⟩) (broadcastInDim S1x8x512 ![1, 2] bcast_S8x512_S1x8x512_1_2),
    StableHlo.TRef.nullary (.of main_while1b_call5_c : StableHlo.TRef sig ⟨S_, .i32⟩) (constantI S_ 32 0#32),
    StableHlo.TRef.nullary (.of main_while1b_call5_c_0 : StableHlo.TRef sig ⟨S_, .i32⟩) (constantI S_ 32 0#32),
    StableHlo.TRef.binaryIndexed (.of main_v41_4 : StableHlo.TRef sig ⟨S8192x8x512, .f32⟩) (.of main_while1b_call5_v0 : StableHlo.TRef sig ⟨S1x8x512, .f32⟩) ![(.of main_v41_2 : StableHlo.TRef sig ⟨S_, .i32⟩), (.of main_while1b_call5_c : StableHlo.TRef sig ⟨S_, .i32⟩), (.of main_while1b_call5_c_0 : StableHlo.TRef sig ⟨S_, .i32⟩)] (.of main_while1b_v67 : StableHlo.TRef sig ⟨S8192x8x512, .f32⟩) (fun x u i => Host.dynamicUpdateSlice x u (fun k => (i k (Shape.Idx.first h_S_)).toInt) updateFits_S8192x8x512_S1x8x512) ]
/-- `bodyB3` touches ordinary buffers only. -/
theorem bodyB3_sub : (bodyB3 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
/-- `bodyB3` allocates nothing. -/
theorem bodyB3_fresh : (bodyB3 : List (HloOp τ sig (Elt F))).Forall fun op => op.fresh = ∅ :=
  StableHlo.forall_fresh_of_map rfl
/-- The buffers `bodyB3` writes. -/
abbrev bodyB3_W : List (Ref sig .tc) := [main_while1b_call5_v0, main_while1b_call5_c, main_while1b_call5_c_0, main_while1b_v67]
/-- `bodyB3` writes those buffers and no other. -/
theorem bodyB3_writes : (bodyB3 : List (HloOp τ sig (Elt F))).Forall fun op => op.writes ⊆ (bodyB3_W.map (Proc.devRef (τ := τ) .tc)).toFinset :=
  StableHlo.forall_writes_sub_of_map rfl

/-- The second scan's body, part 4. -/
abbrev bodyB4 : List (HloOp τ sig (Elt F)) :=
  [ StableHlo.nullary main_while1b_c_19 (constantI S_ 32 1#32),
    StableHlo.binary main_v41_2 main_while1b_c_19 main_while1b_v68 (addi : (⟨S_, .i32⟩ : BufTy).Contents (Elt F) → (⟨S_, .i32⟩ : BufTy).Contents (Elt F) → (⟨S_, .i32⟩ : BufTy).Contents (Elt F)),
    StableHlo.unary main_while1b_v68 main_v41_2 id,
    StableHlo.unary main_while1b_v66 main_v41_3 id,
    StableHlo.unary main_while1b_v67 main_v41_4 id ]
/-- `bodyB4` touches ordinary buffers only. -/
theorem bodyB4_sub : (bodyB4 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub ..⟩
/-- `bodyB4` allocates nothing. -/
theorem bodyB4_fresh : (bodyB4 : List (HloOp τ sig (Elt F))).Forall fun op => op.fresh = ∅ :=
  StableHlo.forall_fresh_of_map rfl
/-- The buffers `bodyB4` writes. -/
abbrev bodyB4_W : List (Ref sig .tc) := [main_while1b_c_19, main_while1b_v68, main_v41_2, main_v41_3, main_v41_4]
/-- `bodyB4` writes those buffers and no other. -/
theorem bodyB4_writes : (bodyB4 : List (HloOp τ sig (Elt F))).Forall fun op => op.writes ⊆ (bodyB4_W.map (Proc.devRef (τ := τ) .tc)).toFinset :=
  StableHlo.forall_writes_sub_of_map rfl

/-- The first scan's test: the bound, and the counter compared with it. -/
abbrev condA : List (HloOp τ sig (Elt F)) :=
  [ StableHlo.nullary main_while0c_c_18 (constantI S_ 32 8192#32),
    StableHlo.binary main_v17_2 main_while0c_c_18 main_while0c_v58 (cmpi .slt) ]
/-- `condA` touches ordinary buffers only. -/
theorem condA_sub : (condA : List (HloOp τ sig (Elt F))).Forall fun op => op.bufs ⊆ StableHlo.tcRefs τ sig :=
  ⟨StableHlo.nullary_bufs_sub .., StableHlo.binary_bufs_sub ..⟩
/-- `condA` allocates nothing. -/
theorem condA_fresh : (condA : List (HloOp τ sig (Elt F))).Forall fun op => op.fresh = ∅ :=
  StableHlo.forall_fresh_of_map rfl
/-- The buffers `condA` writes. -/
abbrev condA_W : List (Ref sig .tc) := [main_while0c_c_18, main_while0c_v58]
/-- `condA` writes those buffers and no other. -/
theorem condA_writes : (condA : List (HloOp τ sig (Elt F))).Forall fun op => op.writes ⊆ (condA_W.map (Proc.devRef (τ := τ) .tc)).toFinset :=
  StableHlo.forall_writes_sub_of_map rfl

/-- The second scan's test: the bound, and the counter compared with it. -/
abbrev condB : List (HloOp τ sig (Elt F)) :=
  [ StableHlo.nullary main_while1c_c_18 (constantI S_ 32 8192#32),
    StableHlo.binary main_v41_2 main_while1c_c_18 main_while1c_v58 (cmpi .slt) ]
/-- `condB` touches ordinary buffers only. -/
theorem condB_sub : (condB : List (HloOp τ sig (Elt F))).Forall fun op => op.bufs ⊆ StableHlo.tcRefs τ sig :=
  ⟨StableHlo.nullary_bufs_sub .., StableHlo.binary_bufs_sub ..⟩
/-- `condB` allocates nothing. -/
theorem condB_fresh : (condB : List (HloOp τ sig (Elt F))).Forall fun op => op.fresh = ∅ :=
  StableHlo.forall_fresh_of_map rfl
/-- The buffers `condB` writes. -/
abbrev condB_W : List (Ref sig .tc) := [main_while1c_c_18, main_while1c_v58]
/-- `condB` writes those buffers and no other. -/
theorem condB_writes : (condB : List (HloOp τ sig (Elt F))).Forall fun op => op.writes ⊆ (condB_W.map (Proc.devRef (τ := τ) .tc)).toFinset :=
  StableHlo.forall_writes_sub_of_map rfl

/-- The first scan's body is its five parts in order. -/
theorem bodyA_chain : main_while0_body (F := F) = (Pipeline.chain
  [ StableHlo.seq bodyA0, StableHlo.seq bodyA1, StableHlo.seq bodyA2, StableHlo.seq bodyA3, StableHlo.seq bodyA4 ] : Prog (TpuEff nD τ sig (Elt F) (HostLoop.Sig (Pipeline.Sig Λ₀ (Fin 0) fun p => (pcfgs (F := F) p).Adm) 2) .tc) PUnit) := by
  rewrite [Pipeline.chain_cons, Pipeline.chain_cons, StableHlo.chain_seq_cons, Pipeline.chain_cons, StableHlo.chain_seq_cons]
  chain_rfl

/-- The second scan's body is its five parts in order. -/
theorem bodyB_chain : main_while1_body (F := F) = (Pipeline.chain
  [ StableHlo.seq bodyB0, StableHlo.seq bodyB1, StableHlo.seq bodyB2, StableHlo.seq bodyB3, StableHlo.seq bodyB4 ] : Prog (TpuEff nD τ sig (Elt F) (HostLoop.Sig (Pipeline.Sig Λ₀ (Fin 0) fun p => (pcfgs (F := F) p).Adm) 2) .tc) PUnit) := by
  rewrite [Pipeline.chain_cons, Pipeline.chain_cons, StableHlo.chain_seq_cons, Pipeline.chain_cons, StableHlo.chain_seq_cons]
  chain_rfl

/-- The program's last statements are the second part between the scans, the second scan, and what follows it. -/
theorem part1_chain (c : Dev nD) : main_part1 (F := F) c = (Pipeline.chain
  [ StableHlo.seq midOpsB, HostLoop.enter 1, StableHlo.seq postOps ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, StableHlo.chain_seq_cons]
  chain_rfl

/-- The program's first statements, followed by anything. -/
theorem part0_chain (c : Dev nD) : main_part0 (F := F) c = (Pipeline.chainK
  [ StableHlo.seq preOps, HostLoop.enter 0 ] (StableHlo.seq midOpsA) : Prog (TpuEff nD τ sig (Elt F) (HostLoop.Sig (Pipeline.Sig Λ₀ (Fin 0) fun p => (pcfgs (F := F) p).Adm) 2) .tc) PUnit) := by
  first | rewrite [StableHlo.chainK_seq_cons, Pipeline.chainK_cons]; chain_rfl | chain_rfl

/-- The reference is its stretches and its two scans in order. -/
theorem main_chain (c : Dev nD) : main (F := F) c = (Pipeline.chain
  [ StableHlo.seq preOps, HostLoop.enter 0, StableHlo.seq midOpsA, StableHlo.seq midOpsB, HostLoop.enter 1, StableHlo.seq postOps ] : Prog (TpuEff nD τ sig (Elt F) (HostLoop.Sig (Pipeline.Sig Λ₀ (Fin 0) fun p => (pcfgs (F := F) p).Adm) 2) .tc) PUnit) := by
  show (main_part0 (F := F) c >>= fun _ => main_part1 (F := F) c) = _
  rewrite [part1_chain, part0_chain, Pipeline.chainK_bind_chain]
  chain_rfl

/-- The stretches before the first scan. -/
abbrev preI : List (List (HloOp τ sig (Elt F))) := [preOps]
/-- The stretches before the first scan are plain host operations. -/
theorem preI_plain : Plain (preI (F := F)) := .cons preOps_sub (hf := List.forall_iff_forall_mem.mp preOps_fresh) (.nil)

/-- The stretches of the first scan's body. -/
abbrev bodyAI : List (List (HloOp τ sig (Elt F))) := [bodyA0, bodyA1, bodyA2, bodyA3, bodyA4]
/-- The stretches of the first scan's body are plain host operations. -/
theorem bodyAI_plain : Plain (bodyAI (F := F)) := .cons bodyA0_sub (hf := List.forall_iff_forall_mem.mp bodyA0_fresh) (.cons bodyA1_sub (hf := List.forall_iff_forall_mem.mp bodyA1_fresh) (.cons bodyA2_sub (hf := List.forall_iff_forall_mem.mp bodyA2_fresh) (.cons bodyA3_sub (hf := List.forall_iff_forall_mem.mp bodyA3_fresh) (.cons bodyA4_sub (hf := List.forall_iff_forall_mem.mp bodyA4_fresh) (.nil)))))

/-- The stretches between the scans. -/
abbrev midI : List (List (HloOp τ sig (Elt F))) := [midOpsA, midOpsB]
/-- The stretches between the scans are plain host operations. -/
theorem midI_plain : Plain (midI (F := F)) := .cons midOpsA_sub (hf := List.forall_iff_forall_mem.mp midOpsA_fresh) (.cons midOpsB_sub (hf := List.forall_iff_forall_mem.mp midOpsB_fresh) (.nil))

/-- The stretches of the second scan's body. -/
abbrev bodyBI : List (List (HloOp τ sig (Elt F))) := [bodyB0, bodyB1, bodyB2, bodyB3, bodyB4]
/-- The stretches of the second scan's body are plain host operations. -/
theorem bodyBI_plain : Plain (bodyBI (F := F)) := .cons bodyB0_sub (hf := List.forall_iff_forall_mem.mp bodyB0_fresh) (.cons bodyB1_sub (hf := List.forall_iff_forall_mem.mp bodyB1_fresh) (.cons bodyB2_sub (hf := List.forall_iff_forall_mem.mp bodyB2_fresh) (.cons bodyB3_sub (hf := List.forall_iff_forall_mem.mp bodyB3_fresh) (.cons bodyB4_sub (hf := List.forall_iff_forall_mem.mp bodyB4_fresh) (.nil)))))

/-- The stretches after the second scan. -/
abbrev postI : List (List (HloOp τ sig (Elt F))) := [postOps]
/-- The stretches after the second scan are plain host operations. -/
theorem postI_plain : Plain (postI (F := F)) := .cons postOps_sub (hf := List.forall_iff_forall_mem.mp postOps_fresh) (.nil)

end Cert.Ref

end
-- ==== Proof.TwoLoops.lean ====
/-
  The run of a host program with two counted loops: stretches of host operations, a loop, more stretches, a second
  loop, and the last stretches. Every weakly fair execution terminates, and every buffer that holds a value of the
  program ends at the fold of the stretches and of the two loops' trips.
-/
module

public import Idealize.ShloMosaic.Lib.StableHlo.RunLoop

@[expose] public section

noncomputable section

namespace Cert.TwoLoops

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo
open Idealize.ShloMosaic.Pipeline (CSeg Ticket PCfg ucRefs)
open TcCoe

variable {nD : Nat} {τ : Topo} {sig : RefSig} {F : FTy → Type} {Λ₀ : Idealize.SL.Sem.Labels}

/-- One counted loop as the run sees it: its label, its two regions, the operations they are made of, its number of trips. -/
structure Loop (pcs : Fin 0 → PCfg sig Λ₀ (Elt F)) {nL : Nat}
    (loops : Fin nL → Prog (TpuEff nD τ sig (Elt F) (HostLoop.Sig (Pipeline.Sig Λ₀ (Fin 0) fun p => (pcs p).Adm) nL) .tc) PUnit) where
  label : Fin nL
  cond : Prog (TpuEff nD τ sig (Elt F) (HostLoop.Sig (Pipeline.Sig Λ₀ (Fin 0) fun p => (pcs p).Adm) nL) .tc) (Elt F .i1)
  body : Prog (TpuEff nD τ sig (Elt F) (HostLoop.Sig (Pipeline.Sig Λ₀ (Fin 0) fun p => (pcs p).Adm) nL) .tc) PUnit
  isLoop : loops label = HostLoop.step label cond body
  condOps : List (HloOp τ sig (Elt F))
  bodyI : List (List (HloOp τ sig (Elt F)))
  plain : Plain bodyI
  isChain : body = Pipeline.chain (bodyI.map fun ops => (seq ops : Prog _ PUnit))
  trips : ℕ

variable {pcs : Fin 0 → PCfg sig Λ₀ (Elt F)} {defs₀ : Defs nD τ sig (Elt F) Λ₀} {nL : Nat}
  {loops : Fin nL → Prog (TpuEff nD τ sig (Elt F) (HostLoop.Sig (Pipeline.Sig Λ₀ (Fin 0) fun p => (pcs p).Adm) nL) .tc) PUnit}

/-- Every buffer's contents when a loop entered at `W` has finished. -/
abbrev Loop.exit (A : Loop (nD := nD) (τ := τ) pcs loops) (W : Dev nD → Valuation τ sig (Elt F)) (c : Dev nD) : Valuation τ sig (Elt F) :=
  after A.condOps (atTrip A.condOps A.bodyI W A.trips c)

/-- Every buffer's contents when the second loop is entered. -/
abbrev secondEntry (A : Loop (nD := nD) (τ := τ) pcs loops) (preI midI : List (List (HloOp τ sig (Elt F))))
    (m : (ℓ : Loc nD τ sig) → Buf (Elt F) ℓ) (c : Dev nD) : Valuation τ sig (Elt F) :=
  afterL midI (A.exit (entryContents preI m) c)

/-- Every buffer's contents at the end of the program. -/
abbrev atEnd (A B : Loop (nD := nD) (τ := τ) pcs loops) (preI midI postI : List (List (HloOp τ sig (Elt F))))
    (m : (ℓ : Loc nD τ sig) → Buf (Elt F) ℓ) (c : Dev nD) : Valuation τ sig (Elt F) :=
  afterL postI (B.exit (secondEntry A preI midI m) c)

section Run

local notation "𝕄" => MT nD τ sig Unit (Elt F) ℕ (Option PUnit) ℕ

/-- There is no pipeline to admit. -/
abbrev noAdm (pcs : Fin 0 → PCfg sig Λ₀ (Elt F)) : (p : Fin 0) → (pcs p).Adm := fun p => p.elim0
/-- There is no ticket. -/
abbrev noTk (nD : Nat) (τ : Topo) (pcs : Fin 0 → PCfg sig Λ₀ (Elt F)) :
    Fin 0 → Ticket (Ix := Unit) (Name := ℕ) (U := Option PUnit) (Lvl := ℕ) (nD := nD) (τ := τ) pcs (noAdm pcs) := fun j => j.elim0
/-- No cell has a level. -/
abbrev noL : GSem nD τ sig → Finset Unit := fun _ => ∅
/-- The level nothing has. -/
abbrev noLv : GSem nD τ sig → Unit → ℕ := fun _ _ => 0
/-- What rides along beside the buffers: the core owes nothing. -/
abbrev owesNothing (c : Dev nD) : sProp 𝕄 := iprop(∃ W, owes (c : Thread nD τ) (0 : CellTallies nD τ sig Unit) W)

/-- A loop's test, specified with the buffers alone, is specified with what rides along. -/
theorem loopCond_of {cond : Prog (TpuEff nD τ sig (Elt F) (HostLoop.Sig (Pipeline.Sig Λ₀ (Fin 0) fun p => (pcs p).Adm) nL) .tc) (Elt F .i1)}
    {condOps : List (HloOp τ sig (Elt F))} {bodyI : List (List (HloOp τ sig (Elt F)))} {W : Dev nD → Valuation τ sig (Elt F)} {n : ℕ}
    (h : CondSpec pcs defs₀ loops cond condOps bodyI W n) :
    LoopCond (Name := ℕ) (U := Option PUnit) (Lvl := ℕ) pcs defs₀ Variants.none loops (owesNothing (F := F)) cond condOps bodyI W n := fun k hk c bd => by
  have hpost : ∀ v : Elt F .i1,
      iprop(iprop(⌜v = 1#1 ↔ k < n⌝ ∗ boundary (c : Thread nD τ) ∗ held (c : Thread nD τ) (ucRefs τ sig) (after condOps (atTrip condOps bodyI W k c))) ∗ owesNothing (F := F) c)
        ⊢ iprop(⌜v = 1#1 ↔ k < n⌝ ∗ boundary (c : Thread nD τ) ∗ held (c : Thread nD τ) (ucRefs τ sig) (after condOps (atTrip condOps bodyI W k c)) ∗ owesNothing (F := F) c) := fun v => by
    iintro ⟨⟨%hv, Hb, Hh⟩, Ho⟩
    isplitr; · ipureintro; exact hv
    isplitl [Hb]; · iexact Hb
    isplitl [Hh] <;> iassumption
  refine BIBase.Entails.trans ?_ (((sep_mono_left (h k hk c bd)).trans (wp_frame_r _ _ _)).trans (wp_mono _ _ _ hpost))
  iintro ⟨Hb, Hh, Ho⟩
  isplitl [Hb Hh]; · isplitl [Hb] <;> iassumption
  iexact Ho

/-- A loop as one segment of the run, entered at `W`. -/
def Loop.seg (A : Loop (nD := nD) (τ := τ) pcs loops) (W : Dev nD → Valuation τ sig (Elt F))
    (h : CondSpec pcs defs₀ loops A.cond A.condOps A.bodyI W A.trips) :
    CSeg pcs (noAdm pcs) defs₀ Variants.none noL noLv loops (noTk nD τ pcs) :=
  loopSeg _ _ _ _ _ _ _ _ A.label A.cond A.body A.isLoop A.condOps A.bodyI A.plain A.isChain A.trips W (owesNothing (F := F)) (loopCond_of h)

variable (A B : Loop (nD := nD) (τ := τ) pcs loops) (preI midI postI : List (List (HloOp τ sig (Elt F))))
  (hpre : Plain preI) (hmid : Plain midI) (hpost : Plain postI) (m : (ℓ : Loc nD τ sig) → Buf (Elt F) ℓ)
  (hA : CondSpec pcs defs₀ loops A.cond A.condOps A.bodyI (entryContents preI m) A.trips)
  (hB : CondSpec pcs defs₀ loops B.cond B.condOps B.bodyI (secondEntry A preI midI m) B.trips)

/-- The program's segments in order. -/
def segs : List (CSeg pcs (noAdm pcs) defs₀ Variants.none noL noLv loops (noTk nD τ pcs)) :=
  segsOf _ _ _ _ _ _ _ _ (owesNothing (F := F)) preI hpre (launchContents m)
    ++ A.seg (entryContents preI m) hA
      :: (segsOf _ _ _ _ _ _ _ _ (owesNothing (F := F)) midI hmid (fun c => A.exit (entryContents preI m) c)
        ++ B.seg (secondEntry A preI midI m) hB
          :: segsOf _ _ _ _ _ _ _ _ (owesNothing (F := F)) postI hpost (fun c => B.exit (secondEntry A preI midI m) c))

/-- The segments' programs are the stretches and the two loops' calls. -/
theorem segs_prog : (segs (defs₀ := defs₀) A B preI midI postI hpre hmid hpost m hA hB).map CSeg.prog
    = (preI.map fun ops => (seq ops : Prog _ PUnit)) ++ HostLoop.enter A.label
        :: ((midI.map fun ops => (seq ops : Prog _ PUnit)) ++ HostLoop.enter B.label :: postI.map fun ops => (seq ops : Prog _ PUnit)) := by
  unfold segs
  rw [List.map_append, List.map_cons, segsOf_prog, List.map_append, List.map_cons, segsOf_prog, segsOf_prog]
  rfl

/-- Each segment starts where the one before it ended. -/
theorem segs_chains : CSeg.Chains (fun c => iprop(held (c : Thread nD τ) (ucRefs τ sig) (launchContents m c) ∗ owesNothing (F := F) c))
    (segs (defs₀ := defs₀) A B preI midI postI hpre hmid hpost m hA hB)
    (fun c => iprop(iprop(held (c : Thread nD τ) (ucRefs τ sig) (atEnd A B preI midI postI m c)) ∗ ∃ W, owes (c : Thread nD τ) (0 : CellTallies nD τ sig Unit) W)) := by
  unfold segs
  exact CSeg.Chains.append (segsOf_chains _ _ _ _ _ _ _ _ _ preI hpre _)
    ⟨fun _ => .rfl, CSeg.Chains.append (segsOf_chains _ _ _ _ _ _ _ _ _ midI hmid _)
      ⟨fun _ => .rfl, segsOf_chains _ _ _ _ _ _ _ _ _ postI hpost _⟩⟩

end Run

/-- The run: from any memory with zero counters every weakly fair execution terminates, and every buffer holding a
    value of the program ends at `atEnd`. -/
theorem run [∀ e, Nonempty (Elt F e)]
    (main : Dev nD → Prog (TpuEff nD τ sig (Elt F) (HostLoop.Sig (Pipeline.Sig Λ₀ (Fin 0) fun p => (pcs p).Adm) nL) .tc) PUnit)
    (A B : Loop (nD := nD) (τ := τ) pcs loops) (preI midI postI : List (List (HloOp τ sig (Elt F))))
    (hpre : Plain preI) (hmid : Plain midI) (hpost : Plain postI)
    (hmain : ∀ c, main c = Pipeline.chain ((preI.map fun ops => (seq ops : Prog _ PUnit)) ++ HostLoop.enter A.label
        :: ((midI.map fun ops => (seq ops : Prog _ PUnit)) ++ HostLoop.enter B.label :: postI.map fun ops => (seq ops : Prog _ PUnit))))
    (m : (ℓ : Loc nD τ sig) → Buf (Elt F) ℓ) (ρ : Dev nD → PrngReg)
    (hA : CondSpec pcs defs₀ loops A.cond A.condOps A.bodyI (entryContents preI m) A.trips)
    (hB : CondSpec pcs defs₀ loops B.cond B.condOps B.bodyI (secondEntry A preI midI m) B.trips) :
    θ_run (HostLoop.defs loops (Pipeline.defs pcs defs₀)) (onTc (τ := τ) main) ⟨m, fun _ => 0, ρ⟩
      (fun r => ∀ (c : Dev nD) (b : Ref sig .tc), (Proc.devRef .tc b : DevRef τ sig).isScoped = false →
        r.2.mem ((c.tc : Thread nD τ).loc b) = atEnd A B preI midI postI m c (Proc.devRef .tc b)) :=
  Pipeline.θ_run_regions_loop_kit (Ix := Unit) (Name := ℕ) (U := Option PUnit) (Lvl := ℕ) (J := Fin 0) (P := Fin 0) (Val := Elt F)
    pcs (noAdm pcs) (fun k => k.1.elim0) defs₀ Variants.none noL noLv loops (noTk nD τ pcs) m ρ main
    (segs A B preI midI postI hpre hmid hpost m hA hB)
    (fun c Q => by
      rw [hmain c]
      show wp _ _ _ (Pipeline.chain ((segs A B preI midI postI hpre hmid hpost m hA hB).map CSeg.prog)) Q ⊢ _
      rw [segs_prog])
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp (MT nD τ sig Unit (Elt F) ℕ (Option PUnit) ℕ)) ⊢ bigSep Finset.univ (fun _ : Dev nD => (BI.emp : sProp (MT nD τ sig Unit (Elt F) ℕ (Option PUnit) ℕ))) from by rw [BI.bigSep_emp_const])
        iempintro)
    (T₀ := fun c => iprop(held (c : Thread nD τ) (ucRefs τ sig) (launchContents m c) ∗ owesNothing (F := F) c))
    (Tₙ := fun c => iprop(held (c : Thread nD τ) (ucRefs τ sig) (atEnd A B preI midI postI m c)))
    (hch := segs_chains A B preI midI postI hpre hmid hpost m hA hB)
    (hinit := by
      refine Pipeline.initEach noL noLv fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = atEnd A B preI midI postI m c b)
    (hfin := fun c s' => by
      unfold held
      iintro ⟨Hh, HSI⟩
      ihave Hr := (pointsTo_read_all (ucRefs τ sig) (fun b => ((c : Dev nD), b)) (fun b => atEnd A B preI midI postI m c b) s') $$ [Hh HSI]
      · isplitl [Hh] <;> iassumption
      icases Hr with ⟨%h, HSI⟩
      imodintro
      isplitr; · ipureintro; exact h
      iexact HSI)
    (hQ := fun _ h c b hb => h c _ (devRef_mem_ucRefs b hb))

end Cert.TwoLoops

end
-- ==== Proof.RefRun.lean ====
/-
  The reference's run: each scan's counter, each scan's test, and the state every buffer ends in — the fold of the
  stretches and of the two scans' trips.
-/
module

public import proofs.«01_k».proof.Proof.RefOps
public import proofs.«01_k».proof.Proof.TwoLoops
public import Idealize.ShloMosaic.Lib.Scf.ExitTest
public import Idealize.ShloMosaic.Lib.Scf.Counter

@[expose] public section

noncomputable section

namespace Cert.Ref

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-- `condA` leaves the first scan's counter as it was. -/
theorem ctr_condA (V : Valuation τ sig (Elt F)) : after condA V (Proc.devRef .tc main_v17_2) = V (Proc.devRef .tc main_v17_2) :=
  after_of_writes_sub condA V condA_writes (by decide +kernel)
/-- `bodyA0` leaves the first scan's counter as it was. -/
theorem ctr_bodyA0 (V : Valuation τ sig (Elt F)) : after bodyA0 V (Proc.devRef .tc main_v17_2) = V (Proc.devRef .tc main_v17_2) :=
  after_of_writes_sub bodyA0 V bodyA0_writes (by decide +kernel)
/-- `bodyA1` leaves the first scan's counter as it was. -/
theorem ctr_bodyA1 (V : Valuation τ sig (Elt F)) : after bodyA1 V (Proc.devRef .tc main_v17_2) = V (Proc.devRef .tc main_v17_2) :=
  after_of_writes_sub bodyA1 V bodyA1_writes (by decide +kernel)
/-- `bodyA2` leaves the first scan's counter as it was. -/
theorem ctr_bodyA2 (V : Valuation τ sig (Elt F)) : after bodyA2 V (Proc.devRef .tc main_v17_2) = V (Proc.devRef .tc main_v17_2) :=
  after_of_writes_sub bodyA2 V bodyA2_writes (by decide +kernel)
/-- `bodyA3` leaves the first scan's counter as it was. -/
theorem ctr_bodyA3 (V : Valuation τ sig (Elt F)) : after bodyA3 V (Proc.devRef .tc main_v17_2) = V (Proc.devRef .tc main_v17_2) :=
  after_of_writes_sub bodyA3 V bodyA3_writes (by decide +kernel)

set_option maxRecDepth 100000 in
/-- The first scan's body moves the counter one on. -/
theorem ctr_stepA (V : Valuation τ sig (Elt F)) :
    after bodyA4 V (Proc.devRef .tc main_v17_2) = addi (V (Proc.devRef .tc main_v17_2)) (constantI S_ 32 1#32) := by
  after_results
  rfl

/-- Before its `k`-th test the first scan's counter is `k`, if it is zero at the scan's entry. -/
theorem ctr_tripA (W : Dev nD → Valuation τ sig (Elt F)) (c : Dev nD) (h : W c (Proc.devRef .tc main_v17_2) = fun _ => (0#32 : BitVec 32)) :
    ∀ k, atTrip condA bodyAI W k c (Proc.devRef .tc main_v17_2) = fun _ => Scf.iv 0#32 1#32 k
  | 0 => by rw [atTrip_zero, h, Scf.iv_zero]
  | k + 1 => by
    rw [atTrip_succ]
    simp only [bodyAI, afterL_cons, afterL_nil]
    rw [ctr_stepA, ctr_bodyA3, ctr_bodyA2, ctr_bodyA1, ctr_bodyA0, ctr_condA, ctr_tripA W c h k, Scf.iv_succ]
    rfl

set_option backward.isDefEq.respectTransparency.types false in
/-- The first scan's test: true exactly before each of the 8192 trips. -/
theorem testA (W : Dev nD → Valuation τ sig (Elt F)) (h : ∀ c, W c (Proc.devRef .tc main_v17_2) = fun _ => (0#32 : BitVec 32)) :
    CondSpec (pcfgs (F := F)) defs₀ loops (main_while0_cond (F := F)) condA bodyAI W 8192 := by
  intro k hk c bd
  have hctr := ctr_tripA W c (h c) k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip condA bodyAI W k c) main_v17_2 HostLoop.idx0)
        (HloOp.result _ (atTrip condA bodyAI W k c) main_while0c_c_18 HostLoop.idx0) = 1#1) (k < 8192)
    rw [nullary_result_ne _ _ _ _ (by decide), nullary_result, hctr]
    exact Scf.cmpi_slt_iv_ub_iff (lb := 0#32) (ub := 8192#32) (st := 1#32) (by decide) (show k ≤ Scf.trips 0#32 8192#32 1#32 from hk)
  isplitl [Hb]; · iexact Hb
  rw [after_cons, after_cons, after_nil]; iexact Hh

/-- The first scan as the run sees it. -/
abbrev scanA : TwoLoops.Loop (nD := nD) (τ := τ) (pcfgs (F := F)) loops where
  label := 0
  cond := main_while0_cond
  body := main_while0_body
  isLoop := rfl
  condOps := condA
  bodyI := bodyAI
  plain := bodyAI_plain
  isChain := by rw [bodyA_chain]; rfl
  trips := 8192

/-- `condB` leaves the second scan's counter as it was. -/
theorem ctr_condB (V : Valuation τ sig (Elt F)) : after condB V (Proc.devRef .tc main_v41_2) = V (Proc.devRef .tc main_v41_2) :=
  after_of_writes_sub condB V condB_writes (by decide +kernel)
/-- `bodyB0` leaves the second scan's counter as it was. -/
theorem ctr_bodyB0 (V : Valuation τ sig (Elt F)) : after bodyB0 V (Proc.devRef .tc main_v41_2) = V (Proc.devRef .tc main_v41_2) :=
  after_of_writes_sub bodyB0 V bodyB0_writes (by decide +kernel)
/-- `bodyB1` leaves the second scan's counter as it was. -/
theorem ctr_bodyB1 (V : Valuation τ sig (Elt F)) : after bodyB1 V (Proc.devRef .tc main_v41_2) = V (Proc.devRef .tc main_v41_2) :=
  after_of_writes_sub bodyB1 V bodyB1_writes (by decide +kernel)
/-- `bodyB2` leaves the second scan's counter as it was. -/
theorem ctr_bodyB2 (V : Valuation τ sig (Elt F)) : after bodyB2 V (Proc.devRef .tc main_v41_2) = V (Proc.devRef .tc main_v41_2) :=
  after_of_writes_sub bodyB2 V bodyB2_writes (by decide +kernel)
/-- `bodyB3` leaves the second scan's counter as it was. -/
theorem ctr_bodyB3 (V : Valuation τ sig (Elt F)) : after bodyB3 V (Proc.devRef .tc main_v41_2) = V (Proc.devRef .tc main_v41_2) :=
  after_of_writes_sub bodyB3 V bodyB3_writes (by decide +kernel)

set_option maxRecDepth 100000 in
/-- The second scan's body moves the counter one on. -/
theorem ctr_stepB (V : Valuation τ sig (Elt F)) :
    after bodyB4 V (Proc.devRef .tc main_v41_2) = addi (V (Proc.devRef .tc main_v41_2)) (constantI S_ 32 1#32) := by
  after_results
  rfl

/-- Before its `k`-th test the second scan's counter is `k`, if it is zero at the scan's entry. -/
theorem ctr_tripB (W : Dev nD → Valuation τ sig (Elt F)) (c : Dev nD) (h : W c (Proc.devRef .tc main_v41_2) = fun _ => (0#32 : BitVec 32)) :
    ∀ k, atTrip condB bodyBI W k c (Proc.devRef .tc main_v41_2) = fun _ => Scf.iv 0#32 1#32 k
  | 0 => by rw [atTrip_zero, h, Scf.iv_zero]
  | k + 1 => by
    rw [atTrip_succ]
    simp only [bodyBI, afterL_cons, afterL_nil]
    rw [ctr_stepB, ctr_bodyB3, ctr_bodyB2, ctr_bodyB1, ctr_bodyB0, ctr_condB, ctr_tripB W c h k, Scf.iv_succ]
    rfl

set_option backward.isDefEq.respectTransparency.types false in
/-- The second scan's test: true exactly before each of the 8192 trips. -/
theorem testB (W : Dev nD → Valuation τ sig (Elt F)) (h : ∀ c, W c (Proc.devRef .tc main_v41_2) = fun _ => (0#32 : BitVec 32)) :
    CondSpec (pcfgs (F := F)) defs₀ loops (main_while1_cond (F := F)) condB bodyBI W 8192 := by
  intro k hk c bd
  have hctr := ctr_tripB W c (h c) k
  unfold main_while1_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip condB bodyBI W k c) main_v41_2 HostLoop.idx0)
        (HloOp.result _ (atTrip condB bodyBI W k c) main_while1c_c_18 HostLoop.idx0) = 1#1) (k < 8192)
    rw [nullary_result_ne _ _ _ _ (by decide), nullary_result, hctr]
    exact Scf.cmpi_slt_iv_ub_iff (lb := 0#32) (ub := 8192#32) (st := 1#32) (by decide) (show k ≤ Scf.trips 0#32 8192#32 1#32 from hk)
  isplitl [Hb]; · iexact Hb
  rw [after_cons, after_cons, after_nil]; iexact Hh

/-- The second scan as the run sees it. -/
abbrev scanB : TwoLoops.Loop (nD := nD) (τ := τ) (pcfgs (F := F)) loops where
  label := 1
  cond := main_while1_cond
  body := main_while1_body
  isLoop := rfl
  condOps := condB
  bodyI := bodyBI
  plain := bodyBI_plain
  isChain := by rw [bodyB_chain]; rfl
  trips := 8192

variable (m : (ℓ : Loc nD τ sig) → Buf (Elt F) ℓ) (ρ : Dev nD → PrngReg)

/-- Every buffer's contents when the first scan is entered. -/
abbrev W0 (c : Dev nD) : Valuation τ sig (Elt F) := entryContents preI m c
/-- Every buffer's contents when the first scan has finished. -/
abbrev X0 (c : Dev nD) : Valuation τ sig (Elt F) := scanA.exit (W0 m) c
/-- Every buffer's contents when the second scan is entered. -/
abbrev W1 (c : Dev nD) : Valuation τ sig (Elt F) := TwoLoops.secondEntry scanA preI midI m c
/-- Every buffer's contents when the second scan has finished. -/
abbrev X1 (c : Dev nD) : Valuation τ sig (Elt F) := scanB.exit (W1 m) c

set_option maxRecDepth 100000 in
/-- The first scan's counter starts at zero. -/
theorem ctr_entryA (c : Dev nD) : W0 m c (Proc.devRef .tc main_v17_2) = fun _ => (0#32 : BitVec 32) := by
  simp only [W0, entryContents, afterL_cons, afterL_nil]
  after_reads_simp
  rfl

set_option maxRecDepth 100000 in
/-- The second scan's counter starts at zero. -/
theorem ctr_entryB (c : Dev nD) : W1 m c (Proc.devRef .tc main_v41_2) = fun _ => (0#32 : BitVec 32) := by
  simp only [W1, TwoLoops.secondEntry, afterL_cons, afterL_nil]
  generalize TwoLoops.Loop.exit scanA (entryContents preI m) c = X
  after_reads_simp
  rfl

/-- The reference's run: every buffer ends at the fold of the stretches and the two scans. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = TwoLoops.atEnd scanA scanB preI midI postI m c (Proc.devRef .tc b)) :=
  TwoLoops.run (defs₀ := defs₀) main scanA scanB preI midI postI preI_plain midI_plain postI_plain
    (fun c => by rw [main_chain]; rfl) m ρ (testA _ (ctr_entryA m)) (testB _ (ctr_entryB m))

end Cert.Ref

end
-- ==== Proof.RefTrip.lean ====
/-
  One trip of the reference's scans, read at an index.
-/
module

public import proofs.«01_k».proof.Proof.RefRun
public import proofs.«01_k».proof.Proof.Lanes
public import Idealize.ShloMosaic.Lib.WordCmp
public import Idealize.ShloMosaic.Lib.Pointwise

@[expose] public section

set_option maxRecDepth 100000

noncomputable section

namespace Cert.Ref

open Cert.ReferenceIdeal Cert.ReferenceIdeal.Gen
open Idealize.ShloMosaic Idealize.ShloMosaic.TcCoe Idealize.SL.Sem
open Idealize.ShloMosaic.StableHlo Idealize.ShloMosaic.WordCmp Cert.Recur

/-- One step of a time-major array with 512 columns, its unit axis dropped. -/
theorem row_at (x : Vec Ideal S8192x8x512 .f32) (start : Fin 3 → Int) (k : Fin 8192) (e : ∀ a, start a = ((![k.val, 0, 0] a : ℕ) : Int))
    (h : S8192x8x512.Slices (fun _ => 0) S1x8x512) (hs : S1x8x512.ShapeCasts S8x512) (b : Fin 8) (i : Fin 512) :
    shapeCast S8x512 (Host.dynamicSlice S1x8x512 x start h) hs (ix2 b i) = x (ix3 k b i) := by
  rw [dynamicSlice_eq_extract _ x start h ![k.val, 0, 0] ⟨rfl, fun a => by
    have := k.isLt
    fin_cases a
    · show k.val + 1 ≤ 8192; omega
    · show 0 + 8 ≤ 8; omega
    · show 0 + 512 ≤ 512; omega⟩ e]
  pointwise

/-- One step of a time-major array with 1 column, its unit axis dropped. -/
theorem gate_at (x : Vec Ideal S8192x8x1 .f32) (start : Fin 3 → Int) (k : Fin 8192) (e : ∀ a, start a = ((![k.val, 0, 0] a : ℕ) : Int))
    (h : S8192x8x1.Slices (fun _ => 0) S1x8x1) (hs : S1x8x1.ShapeCasts S8x1) (b : Fin 8) :
    shapeCast S8x1 (Host.dynamicSlice S1x8x1 x start h) hs (ix2 b 0) = x (ix3 k b 0) := by
  rw [dynamicSlice_eq_extract _ x start h ![k.val, 0, 0] ⟨rfl, fun a => by
    have := k.isLt
    fin_cases a
    · show k.val + 1 ≤ 8192; omega
    · show 0 + 8 ≤ 8; omega
    · show 0 + 1 ≤ 1; omega⟩ e]
  pointwise

/-- One step put into a time-major array. -/
theorem put_at (x : Vec Ideal S8192x8x512 .f32) (u : Vec Ideal S8x512 .f32) (start : Fin 3 → Int) (k : Fin 8192)
    (e : ∀ a, start a = ((![k.val, 0, 0] a : ℕ) : Int)) (h : S8192x8x512.Slices (fun _ => 0) S1x8x512) (r : Fin 8192) (b : Fin 8) (i : Fin 512) :
    Host.dynamicUpdateSlice x (broadcastInDim S1x8x512 ![1, 2] bcast_S8x512_S1x8x512_1_2 u) start h (ix3 r b i)
      = if r = k then u (ix2 b i) else x (ix3 r b i) := by
  rw [dynamicUpdateSlice_eq_update x _ start h ![k.val, 0, 0] ⟨rfl, fun a => by
    have := k.isLt
    fin_cases a
    · show k.val + 1 ≤ 8192; omega
    · show 0 + 8 ≤ 8; omega
    · show 0 + 512 ≤ 512; omega⟩ e]
  unfold updateSlice
  by_cases hr : r = k
  · subst hr
    refine (dif_pos ?_).trans ?_
    · intro a
      have := b.isLt
      have := i.isLt
      fin_cases a
      · show r.val ≤ r.val ∧ r.val < r.val + 1; omega
      · show 0 ≤ b.val ∧ b.val < 0 + 8; omega
      · show 0 ≤ i.val ∧ i.val < 0 + 512; omega
    · rw [if_pos rfl]
      pointwise
  · refine (dif_neg ?_).trans (if_neg hr).symm
    intro hin
    have h0 : k.val ≤ r.val ∧ r.val < k.val + 1 := hin 0
    exact hr (Fin.ext (by omega))

/-- The counter's words read as starts. -/
theorem start_at (k : Fin 8192) : (Scf.iv 0#32 1#32 k.val).toInt = (k.val : Int) := by
  have := k.isLt
  unfold Scf.iv
  simp only [BitVec.mul_one, BitVec.zero_add]
  word_cmp

/-! ## The step -/

/-- One step of a moving average. -/
def blend (g s x : EReal) : EReal := (1 - g) * s + g * x

/-- A step of reals. -/
theorem blend_real {g s x : EReal} {g' s' x' : ℝ} (hg : g = (g' : EReal)) (hs : s = (s' : EReal)) (hx : x = (x' : EReal)) :
    blend g s x = (((1 - g') * s' + g' * x' : ℝ) : EReal) := by
  unfold blend
  rw [hg, hs, hx]
  push_cast
  rfl

/-- A scan whose trips blend reals into a state that starts at zero, and put it into the step's place: before the `k`-th
    trip the state is the moving average of the steps before, and the states put away are those averages. -/
theorem averages {g f : ℕ → ℝ} (C : ℕ → EReal) (Y : ℕ → Fin 8192 → EReal) (h0 : C 0 = ((0 : ℝ) : EReal))
    (hC : ∀ k : Fin 8192, C (k.val + 1) = blend (g k) (C k) (f k)) (hY : ∀ k r : Fin 8192, Y (k.val + 1) r = if r = k then C (k.val + 1) else Y k r) :
    ∀ k ≤ 8192, C k = (st 0 (fun s => 1 - g s) (fun s => g s * f s) k : EReal)
      ∧ ∀ r : Fin 8192, r.val < k → Y k r = (st 0 (fun s => 1 - g s) (fun s => g s * f s) (r.val + 1) : EReal)
  | 0, _ => ⟨h0, fun r hr => absurd hr (Nat.not_lt_zero _)⟩
  | k + 1, hk => by
    obtain ⟨ih, ihs⟩ := averages C Y h0 hC hY k (by omega)
    have e : C (k + 1) = (st 0 (fun s => 1 - g s) (fun s => g s * f s) (k + 1) : EReal) :=
      (hC ⟨k, by omega⟩).trans (blend_real rfl ih rfl)
    refine ⟨e, fun r hr => (hY ⟨k, by omega⟩ r).trans ?_⟩
    by_cases h : r.val = k
    · rw [if_pos (Fin.ext h), h]
      exact e
    · rw [if_neg fun q => h (congrArg Fin.val q)]
      exact ihs r (by omega)

/-! ## The first scan -/

/-- What one trip of the first scan writes. -/
abbrev tripA_W : List (Ref sig .tc) := condA_W ++ (bodyA0_W ++ (bodyA1_W ++ (bodyA2_W ++ (bodyA3_W ++ bodyA4_W))))

/-- A trip leaves every buffer it does not write. -/
theorem keepA (V : Valuation τ sig (Elt Ideal)) {r : Ref sig .tc} (hr : r ∉ tripA_W) :
    afterL bodyAI (after condA V) (Proc.devRef .tc r) = V (Proc.devRef .tc r) := by
  simp only [List.mem_append, not_or] at hr
  obtain ⟨hc, h0, h1, h2, h3, h4⟩ := hr
  simp only [bodyAI, afterL_cons, afterL_nil]
  rw [after_of_writes_sub bodyA4 _ bodyA4_writes h4, after_of_writes_sub bodyA3 _ bodyA3_writes h3, after_of_writes_sub bodyA2 _ bodyA2_writes h2,
    after_of_writes_sub bodyA1 _ bodyA1_writes h1, after_of_writes_sub bodyA0 _ bodyA0_writes h0, after_of_writes_sub condA _ condA_writes hc]

/-- The step's signal. -/
theorem feedA (V : Valuation τ sig (Elt Ideal)) (k : Fin 8192) (hc : V (Proc.devRef .tc main_v17_2) = fun _ => Scf.iv 0#32 1#32 k.val) (b : Fin 8) (i : Fin 512) :
    after bodyA0 V (Proc.devRef .tc main_while0b_v58) (ix2 b i) = V (Proc.devRef .tc main_v17_0) (ix3 k b i) := by
  after_results
  refine row_at (V (Proc.devRef .tc main_v17_0)) _ k (fun a => ?_) sliceFits_S8192x8x512_S1x8x512 shapeCasts_S1x8x512_S8x512 b i
  fin_cases a
  · exact (congrArg (fun f : S_.Idx → BitVec 32 => (f (Shape.Idx.first h_S_)).toInt) hc).trans (start_at k)
  · rfl
  · rfl

/-- The step's gate. -/
theorem gateA (V : Valuation τ sig (Elt Ideal)) (k : Fin 8192) (hc : V (Proc.devRef .tc main_v17_2) = fun _ => Scf.iv 0#32 1#32 k.val) (b : Fin 8) :
    after bodyA1 V (Proc.devRef .tc main_while0b_v59) (ix2 b 0) = V (Proc.devRef .tc main_v17_1) (ix3 k b 0) := by
  after_results
  refine gate_at (V (Proc.devRef .tc main_v17_1)) _ k (fun a => ?_) sliceFits_S8192x8x1_S1x8x1 shapeCasts_S1x8x1_S8x1 b
  fin_cases a
  · exact (congrArg (fun f : S_.Idx → BitVec 32 => (f (Shape.Idx.first h_S_)).toInt) hc).trans (start_at k)
  · rfl
  · rfl

/-- The step's new state, from its signal and gate. -/
theorem newA (V : Valuation τ sig (Elt Ideal)) (b : Fin 8) (i : Fin 512) :
    after bodyA2 V (Proc.devRef .tc main_while0b_v66) (ix2 b i)
      = blend (V (Proc.devRef .tc main_while0b_v59) (ix2 b 0)) (V (Proc.devRef .tc main_v17_3) (ix2 b i)) (V (Proc.devRef .tc main_while0b_v58) (ix2 b i)) := by
  after_results
  pointwise
  rfl

/-- The states so far with the step's put in. -/
theorem putA (V : Valuation τ sig (Elt Ideal)) (k : Fin 8192) (hc : V (Proc.devRef .tc main_v17_2) = fun _ => Scf.iv 0#32 1#32 k.val) (r : Fin 8192) (b : Fin 8) (i : Fin 512) :
    after bodyA3 V (Proc.devRef .tc main_while0b_v67) (ix3 r b i)
      = if r = k then V (Proc.devRef .tc main_while0b_v66) (ix2 b i) else V (Proc.devRef .tc main_v17_4) (ix3 r b i) := by
  after_results
  refine put_at (V (Proc.devRef .tc main_v17_4)) (V (Proc.devRef .tc main_while0b_v66)) _ k (fun a => ?_) updateFits_S8192x8x512_S1x8x512 r b i
  fin_cases a
  · exact (congrArg (fun f : S_.Idx → BitVec 32 => (f (Shape.Idx.first h_S_)).toInt) hc).trans (start_at k)
  · rfl
  · rfl

/-- The new state and the states so far are carried to the next trip. -/
theorem carryA (V : Valuation τ sig (Elt Ideal)) : after bodyA4 V (Proc.devRef .tc main_v17_3) = V (Proc.devRef .tc main_while0b_v66) := by
  after_results
  rfl
@[inherit_doc carryA] theorem statesA (V : Valuation τ sig (Elt Ideal)) : after bodyA4 V (Proc.devRef .tc main_v17_4) = V (Proc.devRef .tc main_while0b_v67) := by
  after_results
  rfl

/-- A trip's state at an index. -/
theorem tripA_carry (V : Valuation τ sig (Elt Ideal)) (k : Fin 8192) (hc : V (Proc.devRef .tc main_v17_2) = fun _ => Scf.iv 0#32 1#32 k.val) (b : Fin 8) (i : Fin 512) :
    afterL bodyAI (after condA V) (Proc.devRef .tc main_v17_3) (ix2 b i)
      = blend (V (Proc.devRef .tc main_v17_1) (ix3 k b 0)) (V (Proc.devRef .tc main_v17_3) (ix2 b i)) (V (Proc.devRef .tc main_v17_0) (ix3 k b i)) := by
  simp only [bodyAI, afterL_cons, afterL_nil]
  rw [carryA, after_of_writes_sub bodyA3 _ bodyA3_writes (r := main_while0b_v66) (by decide +kernel), newA,
    gateA _ k (by rw [ctr_bodyA0, ctr_condA, hc]), after_of_writes_sub bodyA0 _ bodyA0_writes (r := main_v17_1) (by decide +kernel),
    after_of_writes_sub condA _ condA_writes (r := main_v17_1) (by decide +kernel),
    after_of_writes_sub bodyA1 _ bodyA1_writes (r := main_v17_3) (by decide +kernel), after_of_writes_sub bodyA0 _ bodyA0_writes (r := main_v17_3) (by decide +kernel),
    after_of_writes_sub condA _ condA_writes (r := main_v17_3) (by decide +kernel),
    after_of_writes_sub bodyA1 _ bodyA1_writes (r := main_while0b_v58) (by decide +kernel), feedA _ k (by rw [ctr_condA, hc]),
    after_of_writes_sub condA _ condA_writes (r := main_v17_0) (by decide +kernel)]

/-- A trip's states at an index: the step's is its new state. -/
theorem tripA_states (V : Valuation τ sig (Elt Ideal)) (k : Fin 8192) (hc : V (Proc.devRef .tc main_v17_2) = fun _ => Scf.iv 0#32 1#32 k.val) (r : Fin 8192) (b : Fin 8) (i : Fin 512) :
    afterL bodyAI (after condA V) (Proc.devRef .tc main_v17_4) (ix3 r b i)
      = if r = k then afterL bodyAI (after condA V) (Proc.devRef .tc main_v17_3) (ix2 b i) else V (Proc.devRef .tc main_v17_4) (ix3 r b i) := by
  simp only [bodyAI, afterL_cons, afterL_nil]
  rw [statesA, carryA, putA _ k (by rw [ctr_bodyA2, ctr_bodyA1, ctr_bodyA0, ctr_condA, hc]),
    after_of_writes_sub bodyA3 _ bodyA3_writes (r := main_while0b_v66) (by decide +kernel),
    after_of_writes_sub bodyA2 _ bodyA2_writes (r := main_v17_4) (by decide +kernel), after_of_writes_sub bodyA1 _ bodyA1_writes (r := main_v17_4) (by decide +kernel),
    after_of_writes_sub bodyA0 _ bodyA0_writes (r := main_v17_4) (by decide +kernel), after_of_writes_sub condA _ condA_writes (r := main_v17_4) (by decide +kernel)]

/-- Before its `k`-th trip the first scan has left every buffer it does not write. -/
theorem keepTripsA (W : Dev nD → Valuation τ sig (Elt Ideal)) (c : Dev nD) {r : Ref sig .tc} (hr : r ∉ tripA_W) :
    ∀ k, atTrip condA bodyAI W k c (Proc.devRef .tc r) = W c (Proc.devRef .tc r)
  | 0 => rfl
  | k + 1 => by rw [atTrip_succ, keepA _ hr, keepTripsA W c hr k]

/-- The first scan's states when it has finished are the moving averages of its signal. -/
theorem exitA (W : Dev nD → Valuation τ sig (Elt Ideal)) (c : Dev nD) (hc : W c (Proc.devRef .tc main_v17_2) = fun _ => (0#32 : BitVec 32))
    (g : Fin 8 → ℕ → ℝ) (f : Fin 8 → Fin 512 → ℕ → ℝ)
    (hg : ∀ (k : Fin 8192) b, (W c (Proc.devRef .tc main_v17_1) : Vec Ideal S8192x8x1 .f32) (ix3 k b 0) = (g b k : EReal))
    (hf : ∀ (k : Fin 8192) b i, (W c (Proc.devRef .tc main_v17_0) : Vec Ideal S8192x8x512 .f32) (ix3 k b i) = (f b i k : EReal))
    (h0 : ∀ b i, (W c (Proc.devRef .tc main_v17_3) : Vec Ideal S8x512 .f32) (ix2 b i) = ((0 : ℝ) : EReal)) (b : Fin 8) (i : Fin 512) (r : Fin 8192) :
    (scanA.exit W c (Proc.devRef .tc main_v17_4) : Vec Ideal S8192x8x512 .f32) (ix3 r b i)
      = (st 0 (fun s => 1 - g b s) (fun s => g b s * f b i s) (r.val + 1) : EReal) := by
  refine (congrFun (after_of_writes_sub condA _ condA_writes (r := main_v17_4) (by decide +kernel)) _).trans ?_
  refine (averages (fun k => (atTrip condA bodyAI W k c (Proc.devRef .tc main_v17_3) : Vec Ideal S8x512 .f32) (ix2 b i))
    (fun k r => (atTrip condA bodyAI W k c (Proc.devRef .tc main_v17_4) : Vec Ideal S8192x8x512 .f32) (ix3 r b i)) (h0 b i) (fun k => ?_) (fun k r => ?_) 8192 le_rfl).2 r r.isLt
  · refine (tripA_carry _ k (ctr_tripA W c hc k) b i).trans ?_
    rw [keepTripsA W c (r := main_v17_1) (by decide +kernel), keepTripsA W c (r := main_v17_0) (by decide +kernel), hg, hf]
  · exact tripA_states _ k (ctr_tripA W c hc k) r b i

/-- The first scan leaves every buffer it does not write. -/
theorem keepExitA (W : Dev nD → Valuation τ sig (Elt Ideal)) (c : Dev nD) {r : Ref sig .tc} (hr : r ∉ tripA_W) :
    scanA.exit W c (Proc.devRef .tc r) = W c (Proc.devRef .tc r) :=
  (after_of_writes_sub condA _ condA_writes fun h => hr (List.mem_append_left _ h)).trans (keepTripsA W c hr 8192)

/-! ## The second scan -/

/-- What one trip of the second scan writes. -/
abbrev tripB_W : List (Ref sig .tc) := condB_W ++ (bodyB0_W ++ (bodyB1_W ++ (bodyB2_W ++ (bodyB3_W ++ bodyB4_W))))

/-- A trip leaves every buffer it does not write. -/
theorem keepB (V : Valuation τ sig (Elt Ideal)) {r : Ref sig .tc} (hr : r ∉ tripB_W) :
    afterL bodyBI (after condB V) (Proc.devRef .tc r) = V (Proc.devRef .tc r) := by
  simp only [List.mem_append, not_or] at hr
  obtain ⟨hc, h0, h1, h2, h3, h4⟩ := hr
  simp only [bodyBI, afterL_cons, afterL_nil]
  rw [after_of_writes_sub bodyB4 _ bodyB4_writes h4, after_of_writes_sub bodyB3 _ bodyB3_writes h3, after_of_writes_sub bodyB2 _ bodyB2_writes h2,
    after_of_writes_sub bodyB1 _ bodyB1_writes h1, after_of_writes_sub bodyB0 _ bodyB0_writes h0, after_of_writes_sub condB _ condB_writes hc]

/-- The step's signal. -/
theorem feedB (V : Valuation τ sig (Elt Ideal)) (k : Fin 8192) (hc : V (Proc.devRef .tc main_v41_2) = fun _ => Scf.iv 0#32 1#32 k.val) (b : Fin 8) (i : Fin 512) :
    after bodyB0 V (Proc.devRef .tc main_while1b_v58) (ix2 b i) = V (Proc.devRef .tc main_v41_0) (ix3 k b i) := by
  after_results
  refine row_at (V (Proc.devRef .tc main_v41_0)) _ k (fun a => ?_) sliceFits_S8192x8x512_S1x8x512 shapeCasts_S1x8x512_S8x512 b i
  fin_cases a
  · exact (congrArg (fun f : S_.Idx → BitVec 32 => (f (Shape.Idx.first h_S_)).toInt) hc).trans (start_at k)
  · rfl
  · rfl

/-- The step's gate. -/
theorem gateB (V : Valuation τ sig (Elt Ideal)) (k : Fin 8192) (hc : V (Proc.devRef .tc main_v41_2) = fun _ => Scf.iv 0#32 1#32 k.val) (b : Fin 8) :
    after bodyB1 V (Proc.devRef .tc main_while1b_v59) (ix2 b 0) = V (Proc.devRef .tc main_v41_1) (ix3 k b 0) := by
  after_results
  refine gate_at (V (Proc.devRef .tc main_v41_1)) _ k (fun a => ?_) sliceFits_S8192x8x1_S1x8x1 shapeCasts_S1x8x1_S8x1 b
  fin_cases a
  · exact (congrArg (fun f : S_.Idx → BitVec 32 => (f (Shape.Idx.first h_S_)).toInt) hc).trans (start_at k)
  · rfl
  · rfl

/-- The step's new state, from its signal and gate. -/
theorem newB (V : Valuation τ sig (Elt Ideal)) (b : Fin 8) (i : Fin 512) :
    after bodyB2 V (Proc.devRef .tc main_while1b_v66) (ix2 b i)
      = blend (V (Proc.devRef .tc main_while1b_v59) (ix2 b 0)) (V (Proc.devRef .tc main_v41_3) (ix2 b i)) (V (Proc.devRef .tc main_while1b_v58) (ix2 b i)) := by
  after_results
  pointwise
  rfl

/-- The states so far with the step's put in. -/
theorem putB (V : Valuation τ sig (Elt Ideal)) (k : Fin 8192) (hc : V (Proc.devRef .tc main_v41_2) = fun _ => Scf.iv 0#32 1#32 k.val) (r : Fin 8192) (b : Fin 8) (i : Fin 512) :
    after bodyB3 V (Proc.devRef .tc main_while1b_v67) (ix3 r b i)
      = if r = k then V (Proc.devRef .tc main_while1b_v66) (ix2 b i) else V (Proc.devRef .tc main_v41_4) (ix3 r b i) := by
  after_results
  refine put_at (V (Proc.devRef .tc main_v41_4)) (V (Proc.devRef .tc main_while1b_v66)) _ k (fun a => ?_) updateFits_S8192x8x512_S1x8x512 r b i
  fin_cases a
  · exact (congrArg (fun f : S_.Idx → BitVec 32 => (f (Shape.Idx.first h_S_)).toInt) hc).trans (start_at k)
  · rfl
  · rfl

/-- The new state and the states so far are carried to the next trip. -/
theorem carryB (V : Valuation τ sig (Elt Ideal)) : after bodyB4 V (Proc.devRef .tc main_v41_3) = V (Proc.devRef .tc main_while1b_v66) := by
  after_results
  rfl
@[inherit_doc carryB] theorem statesB (V : Valuation τ sig (Elt Ideal)) : after bodyB4 V (Proc.devRef .tc main_v41_4) = V (Proc.devRef .tc main_while1b_v67) := by
  after_results
  rfl

/-- A trip's state at an index. -/
theorem tripB_carry (V : Valuation τ sig (Elt Ideal)) (k : Fin 8192) (hc : V (Proc.devRef .tc main_v41_2) = fun _ => Scf.iv 0#32 1#32 k.val) (b : Fin 8) (i : Fin 512) :
    afterL bodyBI (after condB V) (Proc.devRef .tc main_v41_3) (ix2 b i)
      = blend (V (Proc.devRef .tc main_v41_1) (ix3 k b 0)) (V (Proc.devRef .tc main_v41_3) (ix2 b i)) (V (Proc.devRef .tc main_v41_0) (ix3 k b i)) := by
  simp only [bodyBI, afterL_cons, afterL_nil]
  rw [carryB, after_of_writes_sub bodyB3 _ bodyB3_writes (r := main_while1b_v66) (by decide +kernel), newB,
    gateB _ k (by rw [ctr_bodyB0, ctr_condB, hc]), after_of_writes_sub bodyB0 _ bodyB0_writes (r := main_v41_1) (by decide +kernel),
    after_of_writes_sub condB _ condB_writes (r := main_v41_1) (by decide +kernel),
    after_of_writes_sub bodyB1 _ bodyB1_writes (r := main_v41_3) (by decide +kernel), after_of_writes_sub bodyB0 _ bodyB0_writes (r := main_v41_3) (by decide +kernel),
    after_of_writes_sub condB _ condB_writes (r := main_v41_3) (by decide +kernel),
    after_of_writes_sub bodyB1 _ bodyB1_writes (r := main_while1b_v58) (by decide +kernel), feedB _ k (by rw [ctr_condB, hc]),
    after_of_writes_sub condB _ condB_writes (r := main_v41_0) (by decide +kernel)]

/-- A trip's states at an index: the step's is its new state. -/
theorem tripB_states (V : Valuation τ sig (Elt Ideal)) (k : Fin 8192) (hc : V (Proc.devRef .tc main_v41_2) = fun _ => Scf.iv 0#32 1#32 k.val) (r : Fin 8192) (b : Fin 8) (i : Fin 512) :
    afterL bodyBI (after condB V) (Proc.devRef .tc main_v41_4) (ix3 r b i)
      = if r = k then afterL bodyBI (after condB V) (Proc.devRef .tc main_v41_3) (ix2 b i) else V (Proc.devRef .tc main_v41_4) (ix3 r b i) := by
  simp only [bodyBI, afterL_cons, afterL_nil]
  rw [statesB, carryB, putB _ k (by rw [ctr_bodyB2, ctr_bodyB1, ctr_bodyB0, ctr_condB, hc]),
    after_of_writes_sub bodyB3 _ bodyB3_writes (r := main_while1b_v66) (by decide +kernel),
    after_of_writes_sub bodyB2 _ bodyB2_writes (r := main_v41_4) (by decide +kernel), after_of_writes_sub bodyB1 _ bodyB1_writes (r := main_v41_4) (by decide +kernel),
    after_of_writes_sub bodyB0 _ bodyB0_writes (r := main_v41_4) (by decide +kernel), after_of_writes_sub condB _ condB_writes (r := main_v41_4) (by decide +kernel)]

/-- Before its `k`-th trip the second scan has left every buffer it does not write. -/
theorem keepTripsB (W : Dev nD → Valuation τ sig (Elt Ideal)) (c : Dev nD) {r : Ref sig .tc} (hr : r ∉ tripB_W) :
    ∀ k, atTrip condB bodyBI W k c (Proc.devRef .tc r) = W c (Proc.devRef .tc r)
  | 0 => rfl
  | k + 1 => by rw [atTrip_succ, keepB _ hr, keepTripsB W c hr k]

/-- The second scan's states when it has finished are the moving averages of its signal. -/
theorem exitB (W : Dev nD → Valuation τ sig (Elt Ideal)) (c : Dev nD) (hc : W c (Proc.devRef .tc main_v41_2) = fun _ => (0#32 : BitVec 32))
    (g : Fin 8 → ℕ → ℝ) (f : Fin 8 → Fin 512 → ℕ → ℝ)
    (hg : ∀ (k : Fin 8192) b, (W c (Proc.devRef .tc main_v41_1) : Vec Ideal S8192x8x1 .f32) (ix3 k b 0) = (g b k : EReal))
    (hf : ∀ (k : Fin 8192) b i, (W c (Proc.devRef .tc main_v41_0) : Vec Ideal S8192x8x512 .f32) (ix3 k b i) = (f b i k : EReal))
    (h0 : ∀ b i, (W c (Proc.devRef .tc main_v41_3) : Vec Ideal S8x512 .f32) (ix2 b i) = ((0 : ℝ) : EReal)) (b : Fin 8) (i : Fin 512) (r : Fin 8192) :
    (scanB.exit W c (Proc.devRef .tc main_v41_4) : Vec Ideal S8192x8x512 .f32) (ix3 r b i)
      = (st 0 (fun s => 1 - g b s) (fun s => g b s * f b i s) (r.val + 1) : EReal) := by
  refine (congrFun (after_of_writes_sub condB _ condB_writes (r := main_v41_4) (by decide +kernel)) _).trans ?_
  refine (averages (fun k => (atTrip condB bodyBI W k c (Proc.devRef .tc main_v41_3) : Vec Ideal S8x512 .f32) (ix2 b i))
    (fun k r => (atTrip condB bodyBI W k c (Proc.devRef .tc main_v41_4) : Vec Ideal S8192x8x512 .f32) (ix3 r b i)) (h0 b i) (fun k => ?_) (fun k r => ?_) 8192 le_rfl).2 r r.isLt
  · refine (tripB_carry _ k (ctr_tripB W c hc k) b i).trans ?_
    rw [keepTripsB W c (r := main_v41_1) (by decide +kernel), keepTripsB W c (r := main_v41_0) (by decide +kernel), hg, hf]
  · exact tripB_states _ k (ctr_tripB W c hc k) r b i

/-- The second scan leaves every buffer it does not write. -/
theorem keepExitB (W : Dev nD → Valuation τ sig (Elt Ideal)) (c : Dev nD) {r : Ref sig .tc} (hr : r ∉ tripB_W) :
    scanB.exit W c (Proc.devRef .tc r) = W c (Proc.devRef .tc r) :=
  (after_of_writes_sub condB _ condB_writes fun h => hr (List.mem_append_left _ h)).trans (keepTripsB W c hr 8192)

end Cert.Ref

end
-- ==== Proof.RefReads.lean ====
/-
  The reference's stretches before, between and after its scans, read at an index.
-/
module

public import proofs.«01_k».proof.Proof.RefTrip

@[expose] public section

set_option maxRecDepth 100000

noncomputable section

namespace Cert.Ref

open Cert.ReferenceIdeal Cert.ReferenceIdeal.Gen
open Idealize.ShloMosaic Idealize.ShloMosaic.TcCoe Idealize.SL.Sem
open Idealize.ShloMosaic.StableHlo Cert.Recur Cert.Lanes

/-- A buffer of floats read at an index. -/
abbrev rd (s : Shape) (x : Vec Ideal s .f32) (j : s.Idx) : EReal := x j

variable (V : Valuation τ sig (Elt Ideal))

/-! ## Before the first scan -/

/-- The first scan's signal: the argument, time first. -/
theorem pre_signal (k : Fin 8192) (b : Fin 8) (i : Fin 512) :
    rd S8192x8x512 (after preOps V (Proc.devRef .tc main_v17_0)) (ix3 k b i) = rd S8x512x8192 (V (Proc.devRef .tc main_arg0)) (ix3 b i k) := by
  unfold rd
  after_reads_simp
  try simp only [id]
  pointwise

/-- The gate scaled by the momentum. -/
theorem pre_scaled (k : Fin 8192) (b : Fin 8) :
    rd S8x1x8192 (after preOps V (Proc.devRef .tc main_v1)) (ix3 b 0 k)
      = rd S8x1x8192 (V (Proc.devRef .tc main_arg1)) (ix3 b 0 k) * Ideal.ofBits .f32 0x3D4CCCCD#32 := by
  unfold rd
  after_reads_simp
  try simp only [id]
  pointwise

/-- The first scan's gate: the scaled gate, time first. -/
theorem pre_gate (k : Fin 8192) (b : Fin 8) :
    rd S8192x8x1 (after preOps V (Proc.devRef .tc main_v17_1)) (ix3 k b 0)
      = rd S8x1x8192 (V (Proc.devRef .tc main_arg1)) (ix3 b 0 k) * Ideal.ofBits .f32 0x3D4CCCCD#32 := by
  unfold rd
  after_reads_simp
  try simp only [id]
  pointwise

/-- The first scan starts from zero. -/
theorem pre_zero (b : Fin 8) (i : Fin 512) : rd S8x512 (after preOps V (Proc.devRef .tc main_v17_3)) (ix2 b i) = ((0 : ℝ) : EReal) := by
  unfold rd
  after_reads_simp
  try simp only [id]
  pointwise
  exact EReal.coe_zero.symm

/-- The mean's weights: the softmax of the argument. -/
theorem pre_weights {w : Fin 512 → ℝ} (h : ∀ i, rd S1x512x1 (V (Proc.devRef .tc main_arg2)) (ix3 0 i 0) = (w i : EReal)) (i : Fin 512) :
    rd S1x512x1 (after preOps V (Proc.devRef .tc main_v12)) (ix3 0 i 0) = (sm w i : EReal) := by
  unfold rd
  after_reads_simp
  try simp only [id]
  pointwise
  exact coe_softmax h bot_bits i

/-! ## Between the scans -/

/-- The centred signal. -/
theorem mid_centred (b : Fin 8) (i : Fin 512) (t : Fin 8192) :
    rd S8x512x8192 (after midOpsA V (Proc.devRef .tc main_v24)) (ix3 b i t) = rd S8x512x8192 (V (Proc.devRef .tc main_arg0)) (ix3 b i t)
      - ∑ j : Fin 512, rd S1x512x1 (V (Proc.devRef .tc main_v12)) (ix3 0 j 0) * rd S8192x8x512 (V (Proc.devRef .tc main_v17_4)) (ix3 t b j) := by
  unfold rd
  after_reads_simp
  try simp only [id]
  pointwise

/-- The variance's weights: the softmax of the argument. -/
theorem mid_weights {w : Fin 512 → ℝ} (h : ∀ i, rd S1x512x1 (V (Proc.devRef .tc main_arg3)) (ix3 0 i 0) = (w i : EReal)) (i : Fin 512) :
    rd S1x512x1 (after midOpsA V (Proc.devRef .tc main_v35)) (ix3 0 i 0) = (sm w i : EReal) := by
  unfold rd
  after_reads_simp
  try simp only [id]
  pointwise
  exact coe_softmax h bot_bits i

/-- The second scan's signal: the centred signal's square, time first. -/
theorem mid_signal (k : Fin 8192) (b : Fin 8) (i : Fin 512) :
    rd S8192x8x512 (after midOpsA V (Proc.devRef .tc main_v37)) (ix3 k b i)
      = rd S8x512x8192 (after midOpsA V (Proc.devRef .tc main_v24)) (ix3 b i k) * rd S8x512x8192 (after midOpsA V (Proc.devRef .tc main_v24)) (ix3 b i k) := by
  unfold rd
  after_reads_simp
  try simp only [id]
  pointwise

/-- The second scan's gate: the scaled gate, time first. -/
theorem mid_gate (k : Fin 8192) (b : Fin 8) :
    rd S8192x8x1 (after midOpsA V (Proc.devRef .tc main_v38)) (ix3 k b 0) = rd S8x1x8192 (V (Proc.devRef .tc main_v1)) (ix3 b 0 k) := by
  unfold rd
  after_reads_simp
  try simp only [id]
  pointwise

/-- The second scan starts from zero. -/
theorem mid_zero (b : Fin 8) (i : Fin 512) : rd S8x512 (after midOpsA V (Proc.devRef .tc main_v39)) (ix2 b i) = ((0 : ℝ) : EReal) := by
  unfold rd
  after_reads_simp
  try simp only [id]
  pointwise
  exact EReal.coe_zero.symm

/-- The second scan is handed its signal, its gate and its start. -/
theorem handed_signal : after midOpsB V (Proc.devRef .tc main_v41_0) = V (Proc.devRef .tc main_v37) := by
  after_results
  rfl
@[inherit_doc handed_signal] theorem handed_gate : after midOpsB V (Proc.devRef .tc main_v41_1) = V (Proc.devRef .tc main_v38) := by
  after_results
  rfl
@[inherit_doc handed_signal] theorem handed_zero : after midOpsB V (Proc.devRef .tc main_v41_3) = V (Proc.devRef .tc main_v39) := by
  after_results
  rfl

/-! ## After the second scan -/

/-- The result. -/
theorem post_result (b : Fin 8) (i : Fin 512) (t : Fin 8192) :
    rd S8x512x8192 (after postOps V (Proc.devRef .tc main_v57)) (ix3 b i t)
      = Ideal.div (rd S8x512x8192 (V (Proc.devRef .tc main_v24)) (ix3 b i t))
          (Ideal.sqrt ((∑ j : Fin 512, rd S1x512x1 (V (Proc.devRef .tc main_v35)) (ix3 0 j 0) * rd S8192x8x512 (V (Proc.devRef .tc main_v41_4)) (ix3 t b j))
            + Ideal.ofBits .f32 0x358637BD#32))
          * rd S512x1x1 (V (Proc.devRef .tc main_arg4)) (ix3 i 0 0) + rd S512 (V (Proc.devRef .tc main_arg5)) (ix1 i) := by
  unfold rd
  after_reads_simp
  try simp only [id]
  pointwise

end Cert.Ref

end
-- ==== Proof.RefValue.lean ====
/-
  The reference's result array: the weighted moving averages its two scans leave, and the normalised signal.
-/
module

public import proofs.«01_k».proof.Proof.RefReads
public import proofs.«01_k».proof.Proof.Spec
public import Idealize.ShloMosaic.Lib.ValueIdx
public import Mathlib.Tactic.Linarith

@[expose] public section

set_option maxRecDepth 100000

noncomputable section

namespace Cert.Ref

open Cert.ReferenceIdeal Cert.ReferenceIdeal.Gen
open Idealize.ShloMosaic Idealize.ShloMosaic.TcCoe Idealize.SL.Sem
open Idealize.ShloMosaic.StableHlo Cert.Recur Cert.Lanes

variable (m : (ℓ : Loc nD τ sig) → Buf (Elt Ideal) ℓ)

/-- The argument arrays. -/
abbrev X (c : Dev nD) : FVec Ideal Spec.SX .f32 := m ((c : Thread nD τ).loc main_arg0)
@[inherit_doc X] abbrev G (c : Dev nD) : FVec Ideal Spec.SG .f32 := m ((c : Thread nD τ).loc main_arg1)
@[inherit_doc X] abbrev WA (c : Dev nD) : FVec Ideal Spec.SW .f32 := m ((c : Thread nD τ).loc main_arg2)
@[inherit_doc X] abbrev WB (c : Dev nD) : FVec Ideal Spec.SW .f32 := m ((c : Thread nD τ).loc main_arg3)
@[inherit_doc X] abbrev WO (c : Dev nD) : FVec Ideal Spec.SO .f32 := m ((c : Thread nD τ).loc main_arg4)
@[inherit_doc X] abbrev BO (c : Dev nD) : FVec Ideal Spec.SB .f32 := m ((c : Thread nD τ).loc main_arg5)

/-! ## What the program leaves as it was -/

/-- Before the first scan, a buffer not written holds what it held at the launch. -/
theorem keep_W0 (c : Dev nD) {r : Ref sig .tc} (h : r ∉ preOps_W) : W0 m c (Proc.devRef .tc r) = m ((c : Thread nD τ).loc r) :=
  after_of_writes_sub preOps _ preOps_writes h

/-- After the first scan, a buffer it does not write holds what it held before. -/
theorem keep_X0 (c : Dev nD) {r : Ref sig .tc} (h : r ∉ tripA_W) : X0 m c (Proc.devRef .tc r) = W0 m c (Proc.devRef .tc r) :=
  keepExitA _ c h

/-- Before the second scan, a buffer it is not handed holds what the stretch after the first scan left. -/
theorem keep_handed (c : Dev nD) {r : Ref sig .tc} (h : r ∉ midOpsB_W) : W1 m c (Proc.devRef .tc r) = after midOpsA (X0 m c) (Proc.devRef .tc r) :=
  after_of_writes_sub midOpsB _ midOpsB_writes h

/-- Before the second scan, a buffer not written since the first holds what it held then. -/
theorem keep_W1 (c : Dev nD) {r : Ref sig .tc} (hA : r ∉ midOpsA_W) (hB : r ∉ midOpsB_W) :
    W1 m c (Proc.devRef .tc r) = X0 m c (Proc.devRef .tc r) :=
  (keep_handed m c hB).trans (after_of_writes_sub midOpsA _ midOpsA_writes hA)

/-- After the second scan, a buffer it does not write holds what it held before. -/
theorem keep_X1 (c : Dev nD) {r : Ref sig .tc} (h : r ∉ tripB_W) : X1 m c (Proc.devRef .tc r) = W1 m c (Proc.devRef .tc r) :=
  keepExitB _ c h

/-- What is written before the second scan has finished. -/
abbrev before_W : List (Ref sig .tc) := preOps_W ++ (tripA_W ++ (midOpsA_W ++ (midOpsB_W ++ tripB_W)))

/-- A buffer not written until the second scan has finished holds what it held at the launch; -/
theorem keep_before (c : Dev nD) {r : Ref sig .tc} (h : r ∉ before_W) : X1 m c (Proc.devRef .tc r) = m ((c : Thread nD τ).loc r) := by
  simp only [List.mem_append, not_or] at h
  obtain ⟨h0, h1, h2, h3, h4⟩ := h
  exact (keep_X1 m c (by simpa only [List.mem_append, not_or] using h4)).trans ((keep_W1 m c h2 h3).trans
    ((keep_X0 m c (by simpa only [List.mem_append, not_or] using h1)).trans (keep_W0 m c h0)))

/-- and at the end of the program, if what follows does not write it either. -/
theorem keep_end (c : Dev nD) {r : Ref sig .tc} (h : r ∉ before_W) (hp : r ∉ postOps_W) :
    TwoLoops.atEnd scanA scanB preI midI postI m c (Proc.devRef .tc r) = m ((c : Thread nD τ).loc r) :=
  (after_of_writes_sub postOps _ postOps_writes hp).trans (keep_before m c h)

/-! ## The values -/

section
variable (c : Dev nD) (h : Spec.Good (X m c) (G m c) (WA m c) (WB m c))
include h

/-- The first scan leaves the moving averages of the signal. -/
theorem first_averages (b : Fin 8) (i : Fin 512) (t : Fin 8192) :
    rd S8192x8x512 (X0 m c (Proc.devRef .tc main_v17_4)) (ix3 t b i)
      = (st 0 (fun s => 1 - Spec.gate (G m c) b s) (fun s => Spec.gate (G m c) b s * Spec.sig (X m c) b i s) (t.val + 1) : EReal) :=
  exitA (W0 m) c (ctr_entryA m c) (Spec.gate (G m c)) (Spec.sig (X m c)) (fun k b => (pre_gate _ k b).trans (h.gate b k))
    (fun k b i => (pre_signal _ k b i).trans (h.signal b i k)) (fun b i => pre_zero _ b i) b i t

/-- The mean's weights are the softmax of the third argument. -/
theorem mean_weights (i : Fin 512) : rd S1x512x1 (X0 m c (Proc.devRef .tc main_v12)) (ix3 0 i 0) = (sm (Spec.wt (WA m c)) i : EReal) := by
  rw [keep_X0 m c (by decide +kernel)]
  exact pre_weights _ h.meanRow i

/-- The centred signal. -/
theorem centred (b : Fin 8) (i : Fin 512) (t : Fin 8192) :
    rd S8x512x8192 (after midOpsA (X0 m c) (Proc.devRef .tc main_v24)) (ix3 b i t)
      = ((Spec.sig (X m c) b i t - Spec.μ (X m c) (G m c) (WA m c) b t : ℝ) : EReal) := by
  have e : ∀ j : Fin 512, rd S1x512x1 (X0 m c (Proc.devRef .tc main_v12)) (ix3 0 j 0) * rd S8192x8x512 (X0 m c (Proc.devRef .tc main_v17_4)) (ix3 t b j)
      = ((sm (Spec.wt (WA m c)) j * st 0 (fun s => 1 - Spec.gate (G m c) b s) (fun s => Spec.gate (G m c) b s * Spec.sig (X m c) b j s) (t.val + 1) : ℝ) : EReal) :=
    fun j => by rw [mean_weights m c h, first_averages m c h, EReal.coe_mul]
  rw [mid_centred, Finset.sum_congr rfl fun j _ => e j, coe_sum, mean_eq, keep_X0 m c (by decide +kernel), keep_W0 m c (by decide +kernel)]
  rw [show rd S8x512x8192 (m ((c : Thread nD τ).loc main_arg0)) (ix3 b i t) = _ from h.signal b i t, ← EReal.coe_sub]
  rfl

/-- The second scan leaves the moving averages of the centred signal's square. -/
theorem second_averages (b : Fin 8) (i : Fin 512) (t : Fin 8192) :
    rd S8192x8x512 (X1 m c (Proc.devRef .tc main_v41_4)) (ix3 t b i)
      = (st 0 (fun s => 1 - Spec.gate (G m c) b s) (fun s => Spec.gate (G m c) b s * ((Spec.sig (X m c) b i s - Spec.μ (X m c) (G m c) (WA m c) b s)
          * (Spec.sig (X m c) b i s - Spec.μ (X m c) (G m c) (WA m c) b s))) (t.val + 1) : EReal) :=
  exitB (W1 m) c (ctr_entryB m c) (Spec.gate (G m c))
    (fun b i s => (Spec.sig (X m c) b i s - Spec.μ (X m c) (G m c) (WA m c) b s) * (Spec.sig (X m c) b i s - Spec.μ (X m c) (G m c) (WA m c) b s))
    (fun k b => (congrFun (handed_gate _) _).trans ((mid_gate _ k b).trans
      ((congrFun (keep_X0 m c (r := main_v1) (by decide +kernel)) _).trans ((pre_scaled _ k b).trans (h.gate b k)))))
    (fun k b i => (congrFun (handed_signal _) _).trans ((mid_signal _ k b i).trans (by
      rw [show after midOpsA (TwoLoops.Loop.exit scanA (entryContents preI m) c) = after midOpsA (X0 m c) from rfl, centred m c h, ← EReal.coe_mul])))
    (fun b i => (congrFun (handed_zero _) _).trans (mid_zero _ b i)) b i t

/-- The variance's weights are the softmax of the fourth argument. -/
theorem var_weights (i : Fin 512) : rd S1x512x1 (X1 m c (Proc.devRef .tc main_v35)) (ix3 0 i 0) = (sm (Spec.wt (WB m c)) i : EReal) := by
  rw [keep_X1 m c (by decide +kernel), keep_handed m c (by decide +kernel)]
  refine mid_weights (X0 m c) (fun i => ?_) i
  rw [keep_X0 m c (by decide +kernel), keep_W0 m c (by decide +kernel)]
  exact h.varRow i

/-- The reference's result array. -/
theorem result : TwoLoops.atEnd scanA scanB preI midI postI m c (Proc.devRef .tc main_v57)
    = Spec.out (X m c) (G m c) (WA m c) (WB m c) (WO m c) (BO m c) := by
  refine funext fun (j : S8x512x8192.Idx) => ?_
  idx_vars j
  have e : ∀ k : Fin 512, rd S1x512x1 (X1 m c (Proc.devRef .tc main_v35)) (ix3 0 k 0) * rd S8192x8x512 (X1 m c (Proc.devRef .tc main_v41_4)) (ix3 j2 j0 k)
      = ((sm (Spec.wt (WB m c)) k * st 0 (fun s => 1 - Spec.gate (G m c) j0 s) (fun s => Spec.gate (G m c) j0 s
          * ((Spec.sig (X m c) j0 k s - Spec.μ (X m c) (G m c) (WA m c) j0 s) * (Spec.sig (X m c) j0 k s - Spec.μ (X m c) (G m c) (WA m c) j0 s)))
          (j2.val + 1) : ℝ) : EReal) :=
    fun k => by rw [var_weights m c h, second_averages m c h, EReal.coe_mul]
  have e24 : X1 m c (Proc.devRef .tc main_v24) = after midOpsA (X0 m c) (Proc.devRef .tc main_v24) :=
    (keep_X1 m c (by decide +kernel)).trans (keep_handed m c (by decide +kernel))
  have hσ := Spec.σ_nonneg h j0 j2.val
  have hp : 0 < Spec.σ (X m c) (G m c) (WA m c) (WB m c) j0 j2 + ε := by have := ε_pos; linarith
  refine (post_result (X1 m c) j0 j1 j2).trans ?_
  rw [Finset.sum_congr rfl fun k _ => e k, coe_sum, var_eq _ (sm_sum _), e24, centred m c h, keep_before m c (by decide +kernel),
    keep_before m c (by decide +kernel), show Ideal.ofBits .f32 0x358637BD#32 = (ε : EReal) from ε_bits, ← EReal.coe_add]
  refine congrArg (fun z : EReal => z * (WO m c) (ix3 j1 0 0) + (BO m c) (ix1 j1)) ?_
  exact (congrArg _ (coe_sqrt hp.le)).trans (coe_div (Real.sqrt_pos.mpr hp))

end

end Cert.Ref

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.Pre_gates_between_zero_and_one
public import proofs.«01_k».proof.Proof.Inputs
public import proofs.«01_k».proof.Proof.KernelValue
public import proofs.«01_k».proof.Proof.RefValue
public import Idealize.ShloMosaic.Lib.Quiescent
public import Idealize.ShloMosaic.Lib.Claim
public import Idealize.ShloMosaic.Adequacy
public import Idealize.ShloMosaic.Init

@[expose] public section

noncomputable section

namespace Cert.Proof

open Idealize.ShloMosaic Idealize.SL.Sem

section Reference

open Cert.ReferenceIdeal Cert.Ref

variable (m : (ℓ : Loc nD τ sig) → Buf (Elt Ideal) ℓ) (ρ : Dev nD → PrngReg)

/-- The reference ends with the six arrays unchanged and, in its result buffer, what its operations compute. -/
theorem reference_run : θ_run (defs (F := Ideal)) (onTc (τ := τ) (main (F := Ideal))) ⟨m, fun _ => 0, ρ⟩ (fun r => ∀ c : Dev nD,
    r.2.mem ((c.tc : Thread nD τ).loc main_v57) = TwoLoops.atEnd scanA scanB preI midI postI m c (Proc.devRef .tc main_v57)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)) :=
  (θ_run defs _ _).mono (fun r h c =>
    have kept : ∀ x : Ref sig .tc, (Proc.devRef .tc x : DevRef τ sig).isScoped = false → x ∉ before_W → x ∉ postOps_W →
        r.2.mem ((c.tc : Thread nD τ).loc x) = m ((c.tc : Thread nD τ).loc x) := fun x hs hb hp => (h c x hs).trans (keep_end m c hb hp)
    ⟨h c main_v57 (by decide +kernel),
      kept main_arg0 (by decide +kernel) (by decide +kernel) (by decide +kernel),
      kept main_arg1 (by decide +kernel) (by decide +kernel) (by decide +kernel),
      kept main_arg2 (by decide +kernel) (by decide +kernel) (by decide +kernel),
      kept main_arg3 (by decide +kernel) (by decide +kernel) (by decide +kernel),
      kept main_arg4 (by decide +kernel) (by decide +kernel) (by decide +kernel),
      kept main_arg5 (by decide +kernel) (by decide +kernel) (by decide +kernel)⟩) (run_fold m ρ)

end Reference

/-- The reference runs, leaves its arguments as they were, and has no semaphore. -/
theorem reference_frame : Cert.quiescent_ReferenceIdeal := fun m g _ =>
  (θ_run Cert.ReferenceIdeal.defs _ _).mono (fun r h => ⟨fun c => (h c).2, sem_eq_zero_of_no_sems (by decide) r.2⟩) (reference_run m g)

/-- The kernel and the reference, over extended reals, end with the same array when the precondition holds. -/
theorem same_result : Cert.algebraic_KernelIdeal_ReferenceIdeal_pre_gates_between_zero_and_one := by
  intro m g m' g' hpre hagree
  have good := fun c : Dev Cert.KernelIdeal.nD => Inputs.good _ _ _ _ _ _ (hpre c)
  refine ⟨fun c => Spec.out (KernelValue.X m c) (KernelValue.G m c) (KernelValue.WA m c) (KernelValue.WB m c) (KernelValue.WO m c) (KernelValue.BO m c), ?_, ?_⟩
  · exact (θ_run Cert.KernelIdeal.defs _ _).mono (fun r h c => ⟨(h c).1.trans (KernelValue.final m c (good c)), (h c).2⟩) (Cert.KernelIdeal.Value.run_blocks m g)
  · refine (θ_run Cert.ReferenceIdeal.defs _ _).mono (fun r h c => ⟨(h c).1.trans ?_, (h c).2⟩) (reference_run m' g')
    obtain ⟨e0, e1, e2, e3, e4, e5⟩ := hagree c
    have r0 : Ref.X m' c = KernelValue.X m c := e0
    have r1 : Ref.G m' c = KernelValue.G m c := e1
    have r2 : Ref.WA m' c = KernelValue.WA m c := e2
    have r3 : Ref.WB m' c = KernelValue.WB m c := e3
    have r4 : Ref.WO m' c = KernelValue.WO m c := e4
    have r5 : Ref.BO m' c = KernelValue.BO m c := e5
    have hg : Spec.Good (Ref.X m' c) (Ref.G m' c) (Ref.WA m' c) (Ref.WB m' c) := by rw [r0, r1, r2, r3]; exact good c
    rw [Ref.result m' c hg, r0, r1, r2, r3, r4, r5]

/-- All the claims. -/
theorem claim : Cert.Claim :=
  ⟨Cert.Kernel.Gen.facts, Cert.KernelIdeal.Gen.facts, Cert.ReferenceIdeal.Gen.facts, Cert.Pre_gates_between_zero_and_one.Gen.facts,
    fun m g _ => Cert.Kernel.Gen.frame m g, fun m g _ => Cert.KernelIdeal.Gen.frame m g, fun m g _ => Cert.KernelIdeal.Gen.frame m g,
    reference_frame, fun m g _ => reference_frame m g trivial, trivial, same_result⟩

end Cert.Proof

end
